-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_ids_in_range_and_tables_finite [hPre_ids_in_range_and_tables_finite : Cert.Pre_ids_in_range_and_tables_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_and_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_and_tables_finite [hPre_ids_in_range_and_tables_finite : Cert.Pre_ids_in_range_and_tables_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_and_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_ids_in_range_and_tables_finite [hKernelIdeal : Cert.KernelIdeal.Facts] [hPre_ids_in_range_and_tables_finite : Cert.Pre_ids_in_range_and_tables_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_and_tables_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ids_in_range_and_tables_finite [hReferenceIdeal : Cert.ReferenceIdeal.Facts] [hPre_ids_in_range_and_tables_finite : Cert.Pre_ids_in_range_and_tables_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_and_tables_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_ids_in_range_and_tables_finite [hKernelIdeal : Cert.KernelIdeal.Facts] [hReferenceIdeal : Cert.ReferenceIdeal.Facts] [hPre_ids_in_range_and_tables_finite : Cert.Pre_ids_in_range_and_tables_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_and_tables_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_and_tables_finite : Cert.Pre_ids_in_range_and_tables_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_and_tables_finite (hKernelIdeal := hKernelIdeal) (hPre_ids_in_range_and_tables_finite := hPre_ids_in_range_and_tables_finite)
    ∧ quiescent_ReferenceIdeal (hReferenceIdeal := hReferenceIdeal)
    ∧ quiescent_ReferenceIdeal_pre_ids_in_range_and_tables_finite (hReferenceIdeal := hReferenceIdeal) (hPre_ids_in_range_and_tables_finite := hPre_ids_in_range_and_tables_finite)
    ∧ preserves_Kernel_KernelIdeal
    ∧ algebraic_KernelIdeal_ReferenceIdeal_pre_ids_in_range_and_tables_finite (hKernelIdeal := hKernelIdeal) (hReferenceIdeal := hReferenceIdeal) (hPre_ids_in_range_and_tables_finite := hPre_ids_in_range_and_tables_finite)
-- ==== Pre_ids_in_range.lean ====
abbrev S16384 : Shape := ⟨1, ![16384]⟩
abbrev S1000000x64 : Shape := ⟨2, ![1000000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x64 .f32) (main_arg3 : FVec F S1000000x64 .f32) (main_arg4 : FVec F S64x128 .f32) (main_arg5 : FVec F S128 .f32) (main_arg6 : FVec F S128x64 .f32) (main_arg7 : FVec F S64 .f32) (main_arg8 : FVec F S64x128 .f32) (main_arg9 : FVec F S128 .f32) (main_arg10 : FVec F S128x64 .f32) (main_arg11 : FVec F S64 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 1000000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Pre_ids_in_range_and_tables_finite.lean ====
abbrev S16384 : Shape := ⟨1, ![16384]⟩
abbrev S1000000x64 : Shape := ⟨2, ![1000000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S1000000x64 : S_.BroadcastsInDim S1000000x64 (![] : Fin 0 → Fin S1000000x64.rank)
  reducesTo_S1000000x64_S_d0_1 : S1000000x64.ReducesTo [0, 1] S_

variable [Facts]

def fn_part1 {F : FTy → Type} [FloatOps F] (main_arg3 : FVec F S1000000x64 .f32) (main_v14 : IVec S_ 1) (main_v15 : FVec F S1000000x64 .f32) : IVec S_ 1 :=
  let main_cst : FVec F S_ .f32 := constant S_ .f32 0x7F800000#32
  let main_v16 : FVec F S1000000x64 .f32 := broadcastInDim S1000000x64 ![] bcast_S_S1000000x64 main_cst
  let main_v17 : IVec S1000000x64 1 := cmpf .olt main_v15 main_v16
  let main_c_7 : IVec S_ 1 := constantI S_ 1 1#1
  let main_v18 : IVec S_ 1 := (fun x v => Host.reduce IntOp.andi x v reducesTo_S1000000x64_S_d0_1 h_S_) main_v17 main_c_7
  let main_v19 : IVec S_ 1 := andi main_v14 main_v18
  let main_v20 : FVec F S1000000x64 .f32 := Host.absf main_arg3
  let main_cst_8 : FVec F S_ .f32 := constant S_ .f32 0x7F800000#32
  let main_v21 : FVec F S1000000x64 .f32 := broadcastInDim S1000000x64 ![] bcast_S_S1000000x64 main_cst_8
  let main_v22 : IVec S1000000x64 1 := cmpf .olt main_v20 main_v21
  let main_c_9 : IVec S_ 1 := constantI S_ 1 1#1
  let main_v23 : IVec S_ 1 := (fun x v => Host.reduce IntOp.andi x v reducesTo_S1000000x64_S_d0_1 h_S_) main_v22 main_c_9
  let main_v24 : IVec S_ 1 := andi main_v19 main_v23
  main_v24

def fn {F : FTy → Type} [FloatOps F] (main_arg0 : IVec S16384 32) (main_arg1 : IVec S16384 32) (main_arg2 : FVec F S1000000x64 .f32) (main_arg3 : FVec F S1000000x64 .f32) (main_arg4 : FVec F S64x128 .f32) (main_arg5 : FVec F S128 .f32) (main_arg6 : FVec F S128x64 .f32) (main_arg7 : FVec F S64 .f32) (main_arg8 : FVec F S64x128 .f32) (main_arg9 : FVec F S128 .f32) (main_arg10 : FVec F S128x64 .f32) (main_arg11 : FVec F S64 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 1000000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  let main_v15 : FVec F S1000000x64 .f32 := Host.absf main_arg2
  fn_part1 (F := F) main_arg3 main_v14 main_v15
-- ==== Kernel.lean ====
abbrev S16384 : Shape := ⟨1, ![16384]⟩
abbrev S1000000x64 : Shape := ⟨2, ![1000000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S500000x128 : Shape := ⟨2, ![500000, 128]⟩
abbrev S_ : Shape := ⟨0, ![]⟩
abbrev S16384x1 : Shape := ⟨2, ![16384, 1]⟩
abbrev S1x16384 : Shape := ⟨2, ![1, 16384]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S1x64 : Shape := ⟨2, ![1, 64]⟩
abbrev S2048x128 : Shape := ⟨2, ![2048, 128]⟩
abbrev S2048x1 : Shape := ⟨2, ![2048, 1]⟩
abbrev S2048 : Shape := ⟨1, ![2048]⟩
abbrev S2048x64 : Shape := ⟨2, ![2048, 64]⟩

abbrev nBuf : Table → Nat
  | .hbm => 39
  | .local .tc .vmem => 18
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S500000x128, .f32⟩
  | .hbm, ⟨13, _⟩ => ⟨S500000x128, .f32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .f32⟩
  | .hbm, ⟨24, _⟩ => ⟨S16384x1, .f32⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .f32⟩
  | .hbm, ⟨29, _⟩ => ⟨S16384x1, .f32⟩
  | .hbm, ⟨30, _⟩ => ⟨S1x16384, .i32⟩
  | .hbm, ⟨31, _⟩ => ⟨S1x16384, .i32⟩
  | .hbm, ⟨32, _⟩ => ⟨S16384x128, .f32⟩
  | .hbm, ⟨33, _⟩ => ⟨S16384x128, .f32⟩
  | .hbm, ⟨34, _⟩ => ⟨S1x128, .f32⟩
  | .hbm, ⟨35, _⟩ => ⟨S1x64, .f32⟩
  | .hbm, ⟨36, _⟩ => ⟨S1x128, .f32⟩
  | .hbm, ⟨37, _⟩ => ⟨S1x64, .f32⟩
  | .hbm, ⟨38, _⟩ => ⟨S16384, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x1, .f32⟩
  | .local .tc .vmem, ⟨5, _⟩ => ⟨S2048x1, .f32⟩
  | .local .tc .vmem, ⟨6, _⟩ => ⟨S2048x1, .f32⟩
  | .local .tc .vmem, ⟨7, _⟩ => ⟨S2048x1, .f32⟩
  | .local .tc .vmem, ⟨8, _⟩ => ⟨S64x128, .f32⟩
  | .local .tc .vmem, ⟨9, _⟩ => ⟨S1x128, .f32⟩
  | .local .tc .vmem, ⟨10, _⟩ => ⟨S128x64, .f32⟩
  | .local .tc .vmem, ⟨11, _⟩ => ⟨S1x64, .f32⟩
  | .local .tc .vmem, ⟨12, _⟩ => ⟨S64x128, .f32⟩
  | .local .tc .vmem, ⟨13, _⟩ => ⟨S1x128, .f32⟩
  | .local .tc .vmem, ⟨14, _⟩ => ⟨S128x64, .f32⟩
  | .local .tc .vmem, ⟨15, _⟩ => ⟨S1x64, .f32⟩
  | .local .tc .vmem, ⟨16, _⟩ => ⟨S2048, .f32⟩
  | .local .tc .vmem, ⟨17, _⟩ => ⟨S2048, .f32⟩
  | .local .scVector .vmem, ⟨0, _⟩ => ⟨S2x1x128, .i32⟩
  | .local .scVector .vmem, ⟨1, _⟩ => ⟨S2x1x128, .i32⟩
  | .local .scVector .vmem, ⟨2, _⟩ => ⟨S2x128x128, .f32⟩
  | .local .scVector .vmem, ⟨3, _⟩ => ⟨S2x128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v0_scv : Ref sig .scVector := ⟨.hbm, 12, rfl⟩
abbrev main_v1_scv : Ref sig .scVector := ⟨.hbm, 13, rfl⟩
abbrev main_v14_scv : Ref sig .scVector := ⟨.hbm, 30, rfl⟩
abbrev main_v15_scv : Ref sig .scVector := ⟨.hbm, 31, rfl⟩
abbrev main_v16_0_scv : Ref sig .scVector := ⟨.hbm, 32, rfl⟩
abbrev main_v16_1_scv : Ref sig .scVector := ⟨.hbm, 33, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg12_1 : Ref sig .tc := ⟨.vmem, 17, rfl⟩
abbrev cc0_scoped0 : Ref sig .scVector := ⟨.vmem, 0, rfl⟩
abbrev cc0_scoped2 : Ref sig .scVector := ⟨.vmem, 1, rfl⟩
abbrev cc0_scoped4 : Ref sig .scVector := ⟨.vmem, 2, rfl⟩
abbrev cc0_scoped6 : Ref sig .scVector := ⟨.vmem, 3, rfl⟩
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem12_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_15_r0 : BitVec 32 := 0#32
  let c2_i32_r0 : BitVec 32 := 2#32
  let v23_r0 : BitVec 32 := Scalar.remui c0_i32_15_r0 c2_i32_r0
  let c0_i32_16_r0 : BitVec 32 := 0#32
  let c0_i32_17_r0 : BitVec 32 := 0#32
  ![v23_r0.toNat, 0, 0]
def k0_off2 (i : grid0.Coords) : Fin 2 → Nat :=
  let c0_i32_18_r0 : BitVec 32 := 0#32
  let c128_i32_r0 : BitVec 32 := 128#32
  let c0_i32_3_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v9_r0 : BitVec 32 := Scalar.addi c0_i32_3_r0 v4
  let v24_r0 : BitVec 32 := Scalar.muli c128_i32_r0 v9_r0
  ![0, v24_r0.toNat]
def k0_off3 : Fin 1 → Nat :=
  let c0_i32_15_r0 : BitVec 32 := 0#32
  let c2_i32_r0 : BitVec 32 := 2#32
  let v23_r0 : BitVec 32 := Scalar.remui c0_i32_15_r0 c2_i32_r0
  ![v23_r0.toNat]
@[reducible] def k0_t1_loop : Scf.Loop 32 :=
  let c0_i32_42_r0 : BitVec 32 := 0#32
  let c4_i32_43_r0 : BitVec 32 := 4#32
  let v45_r0 : BitVec 32 := Scalar.addi c0_i32_42_r0 c4_i32_43_r0
  let c1_i32_44_r0 : BitVec 32 := 1#32
  ⟨c0_i32_42_r0, v45_r0, c1_i32_44_r0⟩
def k0_off4 (arg9_r0 : BitVec 32) : Fin 3 → Nat :=
  let c2_i32_151_r0 : BitVec 32 := 2#32
  let v225_r0 : BitVec 32 := Scalar.remui arg9_r0 c2_i32_151_r0
  let c0_i32_153_r0 : BitVec 32 := 0#32
  let c0_i32_154_r0 : BitVec 32 := 0#32
  ![v225_r0.toNat, 0, 0]
def k0_cond1 (i : grid0.Coords) (k0_t1 : Fin k0_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let true_85_r0 : BitVec 1 := 1#1
  let c1_i32_84_r0 : BitVec 32 := 1#32
  let v95_r0 : BitVec 32 := Scalar.addi arg17_r0 c1_i32_84_r0
  let v96_r0 : BitVec 32 := Scalar.select true_85_r0 v95_r0 arg17_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let v99_r0 : BitVec 32 := Scalar.addi v98_r0 v4
  let v105_r0 : BitVec 1 := Scalar.cmpi .ne v89_r0 v99_r0
  let c0_i32_42_r0 : BitVec 32 := 0#32
  let c1_i32_44_r0 : BitVec 32 := 1#32
  let arg8_r0 : BitVec 32 := Scf.iv c0_i32_42_r0 c1_i32_44_r0 k0_t1
  let c3_i32_92_r0 : BitVec 32 := 3#32
  let v106_r0 : BitVec 1 := Scalar.cmpi .sge arg8_r0 c3_i32_92_r0
  let true_93_r0 : BitVec 1 := 1#1
  let v107_r0 : BitVec 1 := Scalar.xori v106_r0 true_93_r0
  let v108_r0 : BitVec 1 := Scalar.andi v105_r0 v107_r0
  let true_94_r0 : BitVec 1 := 1#1
  let v109_r0 : BitVec 1 := Scalar.andi v108_r0 true_94_r0
  let v110_r0 : BitVec 32 := Scalar.extui v109_r0
  let c0_i32_95_r0 : BitVec 32 := 0#32
  let v111_r0 : BitVec 1 := Scalar.cmpi .ne v110_r0 c0_i32_95_r0
  v111_r0

def k0_off5 (i : grid0.Coords) (arg17_r0 : BitVec 32) : Fin 2 → Nat :=
  let c0_i32_155_r0 : BitVec 32 := 0#32
  let c128_i32_152_r0 : BitVec 32 := 128#32
  let true_85_r0 : BitVec 1 := 1#1
  let c1_i32_84_r0 : BitVec 32 := 1#32
  let v95_r0 : BitVec 32 := Scalar.addi arg17_r0 c1_i32_84_r0
  let v96_r0 : BitVec 32 := Scalar.select true_85_r0 v95_r0 arg17_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v99_r0 : BitVec 32 := Scalar.addi v98_r0 v4
  let v226_r0 : BitVec 32 := Scalar.muli c128_i32_152_r0 v99_r0
  ![0, v226_r0.toNat]
def k0_off6 (arg9_r0 : BitVec 32) : Fin 1 → Nat :=
  let c2_i32_151_r0 : BitVec 32 := 2#32
  let v225_r0 : BitVec 32 := Scalar.remui arg9_r0 c2_i32_151_r0
  ![v225_r0.toNat]
def k0_off7 (arg11_r0 : BitVec 32) : Fin 3 → Nat :=
  let c2_i32_151_r0 : BitVec 32 := 2#32
  let v225_r0 : BitVec 32 := Scalar.remui arg11_r0 c2_i32_151_r0
  let c0_i32_153_r0 : BitVec 32 := 0#32
  let c0_i32_154_r0 : BitVec 32 := 0#32
  ![v225_r0.toNat, 0, 0]
def k0_cond2 (i : grid0.Coords) (k0_t1 : Fin k0_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let true_85_r0 : BitVec 1 := 1#1
  let c1_i32_84_r0 : BitVec 32 := 1#32
  let v95_r0 : BitVec 32 := Scalar.addi arg17_r0 c1_i32_84_r0
  let v96_r0 : BitVec 32 := Scalar.select true_85_r0 v95_r0 arg17_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let v99_r0 : BitVec 32 := Scalar.addi v98_r0 v4
  let v115_r0 : BitVec 1 := Scalar.cmpi .ne v89_r0 v99_r0
  let c0_i32_42_r0 : BitVec 32 := 0#32
  let c1_i32_44_r0 : BitVec 32 := 1#32
  let arg8_r0 : BitVec 32 := Scf.iv c0_i32_42_r0 c1_i32_44_r0 k0_t1
  let c3_i32_98_r0 : BitVec 32 := 3#32
  let v116_r0 : BitVec 1 := Scalar.cmpi .sge arg8_r0 c3_i32_98_r0
  let true_99_r0 : BitVec 1 := 1#1
  let v117_r0 : BitVec 1 := Scalar.xori v116_r0 true_99_r0
  let v118_r0 : BitVec 1 := Scalar.andi v115_r0 v117_r0
  let true_100_r0 : BitVec 1 := 1#1
  let v119_r0 : BitVec 1 := Scalar.andi v118_r0 true_100_r0
  let v120_r0 : BitVec 32 := Scalar.extui v119_r0
  let c0_i32_101_r0 : BitVec 32 := 0#32
  let v121_r0 : BitVec 1 := Scalar.cmpi .ne v120_r0 c0_i32_101_r0
  v121_r0

def k0_off8 (i : grid0.Coords) (arg17_r0 : BitVec 32) : Fin 2 → Nat :=
  let c0_i32_155_r0 : BitVec 32 := 0#32
  let c128_i32_152_r0 : BitVec 32 := 128#32
  let true_85_r0 : BitVec 1 := 1#1
  let c1_i32_84_r0 : BitVec 32 := 1#32
  let v95_r0 : BitVec 32 := Scalar.addi arg17_r0 c1_i32_84_r0
  let v96_r0 : BitVec 32 := Scalar.select true_85_r0 v95_r0 arg17_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v99_r0 : BitVec 32 := Scalar.addi v98_r0 v4
  let v226_r0 : BitVec 32 := Scalar.muli c128_i32_152_r0 v99_r0
  ![0, v226_r0.toNat]
def k0_off9 (arg11_r0 : BitVec 32) : Fin 1 → Nat :=
  let c2_i32_151_r0 : BitVec 32 := 2#32
  let v225_r0 : BitVec 32 := Scalar.remui arg11_r0 c2_i32_151_r0
  ![v225_r0.toNat]
def k0_off10 (arg10_r0 : BitVec 32) : Fin 3 → Nat :=
  let c2_i32_152_r0 : BitVec 32 := 2#32
  let v226_r0 : BitVec 32 := Scalar.remui arg10_r0 c2_i32_152_r0
  let c0_i32_153_r0 : BitVec 32 := 0#32
  let c0_i32_154_r0 : BitVec 32 := 0#32
  ![v226_r0.toNat, 0, 0]
def k0_cond3 (i : grid0.Coords) (k0_t1 : Fin k0_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let true_81_r0 : BitVec 1 := 1#1
  let c1_i32_80_r0 : BitVec 32 := 1#32
  let v90_r0 : BitVec 32 := Scalar.subi arg17_r0 c1_i32_80_r0
  let v91_r0 : BitVec 32 := Scalar.select true_81_r0 v90_r0 arg17_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let v94_r0 : BitVec 32 := Scalar.addi v93_r0 v4
  let v133_r0 : BitVec 1 := Scalar.cmpi .ne v89_r0 v94_r0
  let c0_i32_42_r0 : BitVec 32 := 0#32
  let c1_i32_44_r0 : BitVec 32 := 1#32
  let arg8_r0 : BitVec 32 := Scf.iv c0_i32_42_r0 c1_i32_44_r0 k0_t1
  let c0_i32_78_r0 : BitVec 32 := 0#32
  let v87_r0 : BitVec 1 := Scalar.cmpi .eq arg8_r0 c0_i32_78_r0
  let v134_r0 : BitVec 1 := Scalar.ori v133_r0 v87_r0
  let c0_i32_108_r0 : BitVec 32 := 0#32
  let v135_r0 : BitVec 1 := Scalar.cmpi .sge arg8_r0 c0_i32_108_r0
  let v136_r0 : BitVec 1 := Scalar.andi v134_r0 v135_r0
  let v137_r0 : BitVec 32 := Scalar.extui v136_r0
  let c0_i32_109_r0 : BitVec 32 := 0#32
  let v138_r0 : BitVec 1 := Scalar.cmpi .ne v137_r0 c0_i32_109_r0
  v138_r0

def k0_off11 (i : grid0.Coords) (arg17_r0 : BitVec 32) : Fin 2 → Nat :=
  let c0_i32_155_r0 : BitVec 32 := 0#32
  let c128_i32_151_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let v225_r0 : BitVec 32 := Scalar.muli c128_i32_151_r0 v89_r0
  ![0, v225_r0.toNat]
def k0_off12 (arg10_r0 : BitVec 32) : Fin 1 → Nat :=
  let c2_i32_152_r0 : BitVec 32 := 2#32
  let v226_r0 : BitVec 32 := Scalar.remui arg10_r0 c2_i32_152_r0
  ![v226_r0.toNat]
def k0_off13 (arg12_r0 : BitVec 32) : Fin 3 → Nat :=
  let c2_i32_152_r0 : BitVec 32 := 2#32
  let v226_r0 : BitVec 32 := Scalar.remui arg12_r0 c2_i32_152_r0
  let c0_i32_153_r0 : BitVec 32 := 0#32
  let c0_i32_154_r0 : BitVec 32 := 0#32
  ![v226_r0.toNat, 0, 0]
def k0_cond4 (i : grid0.Coords) (k0_t1 : Fin k0_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let true_81_r0 : BitVec 1 := 1#1
  let c1_i32_80_r0 : BitVec 32 := 1#32
  let v90_r0 : BitVec 32 := Scalar.subi arg17_r0 c1_i32_80_r0
  let v91_r0 : BitVec 32 := Scalar.select true_81_r0 v90_r0 arg17_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let v94_r0 : BitVec 32 := Scalar.addi v93_r0 v4
  let v139_r0 : BitVec 1 := Scalar.cmpi .ne v89_r0 v94_r0
  let c0_i32_42_r0 : BitVec 32 := 0#32
  let c1_i32_44_r0 : BitVec 32 := 1#32
  let arg8_r0 : BitVec 32 := Scf.iv c0_i32_42_r0 c1_i32_44_r0 k0_t1
  let c0_i32_78_r0 : BitVec 32 := 0#32
  let v87_r0 : BitVec 1 := Scalar.cmpi .eq arg8_r0 c0_i32_78_r0
  let v140_r0 : BitVec 1 := Scalar.ori v139_r0 v87_r0
  let c0_i32_110_r0 : BitVec 32 := 0#32
  let v141_r0 : BitVec 1 := Scalar.cmpi .sge arg8_r0 c0_i32_110_r0
  let v142_r0 : BitVec 1 := Scalar.andi v140_r0 v141_r0
  let v143_r0 : BitVec 32 := Scalar.extui v142_r0
  let c0_i32_111_r0 : BitVec 32 := 0#32
  let v144_r0 : BitVec 1 := Scalar.cmpi .ne v143_r0 c0_i32_111_r0
  v144_r0

def k0_off14 (i : grid0.Coords) (arg17_r0 : BitVec 32) : Fin 2 → Nat :=
  let c0_i32_155_r0 : BitVec 32 := 0#32
  let c128_i32_151_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let v225_r0 : BitVec 32 := Scalar.muli c128_i32_151_r0 v89_r0
  ![0, v225_r0.toNat]
def k0_off15 (arg12_r0 : BitVec 32) : Fin 1 → Nat :=
  let c2_i32_152_r0 : BitVec 32 := 2#32
  let v226_r0 : BitVec 32 := Scalar.remui arg12_r0 c2_i32_152_r0
  ![v226_r0.toNat]
def k0_off16 (arg13_r0 : BitVec 32) : Fin 3 → Nat :=
  let c2_i32_118_r0 : BitVec 32 := 2#32
  let v159_r0 : BitVec 32 := Scalar.remui arg13_r0 c2_i32_118_r0
  let c0_i32_151_r1 : BitVec 32 := 0#32
  let c0_i32_152_r1 : BitVec 32 := 0#32
  ![v159_r0.toNat, 0, 0]

def k0_chk2 (arg13_r0 : BitVec 32) : Prop :=
  (∀ a, (k0_off16 arg13_r0) a + S1x128x128.size a ≤ S2x128x128.size a)
theorem k0_off16_inb : ∀ (arg13_r0 : BitVec 32) (k0_hw2 : k0_chk2 arg13_r0), ∀ a, (k0_off16 arg13_r0) a + S1x128x128.size a ≤ S2x128x128.size a := fun arg13_r0 k0_hw2 => k0_hw2

def k0_off17 (arg10_r0 : BitVec 32) : Fin 3 → Nat :=
  let c2_i32_116_r0 : BitVec 32 := 2#32
  let v157_r0 : BitVec 32 := Scalar.remui arg10_r0 c2_i32_116_r0
  let c0_i32_153_r1 : BitVec 32 := 0#32
  let c0_i32_154_r1 : BitVec 32 := 0#32
  ![v157_r0.toNat, 0, 0]

def k0_chk3 (arg10_r0 : BitVec 32) : Prop :=
  (∀ a, (k0_off17 arg10_r0) a + S1x1x128.size a ≤ S2x1x128.size a)
theorem k0_off17_inb : ∀ (arg10_r0 : BitVec 32) (k0_hw3 : k0_chk3 arg10_r0), ∀ a, (k0_off17 arg10_r0) a + S1x1x128.size a ≤ S2x1x128.size a := fun arg10_r0 k0_hw3 => k0_hw3

def k0_off18 (arg15_r0 : BitVec 32) : Fin 3 → Nat :=
  let c2_i32_119_r0 : BitVec 32 := 2#32
  let v160_r0 : BitVec 32 := Scalar.remui arg15_r0 c2_i32_119_r0
  let c0_i32_151_r2 : BitVec 32 := 0#32
  let c0_i32_152_r2 : BitVec 32 := 0#32
  ![v160_r0.toNat, 0, 0]

def k0_chk4 (arg15_r0 : BitVec 32) : Prop :=
  (∀ a, (k0_off18 arg15_r0) a + S1x128x128.size a ≤ S2x128x128.size a)
theorem k0_off18_inb : ∀ (arg15_r0 : BitVec 32) (k0_hw4 : k0_chk4 arg15_r0), ∀ a, (k0_off18 arg15_r0) a + S1x128x128.size a ≤ S2x128x128.size a := fun arg15_r0 k0_hw4 => k0_hw4

def k0_off19 (arg12_r0 : BitVec 32) : Fin 3 → Nat :=
  let c2_i32_117_r0 : BitVec 32 := 2#32
  let v158_r0 : BitVec 32 := Scalar.remui arg12_r0 c2_i32_117_r0
  let c0_i32_153_r2 : BitVec 32 := 0#32
  let c0_i32_154_r2 : BitVec 32 := 0#32
  ![v158_r0.toNat, 0, 0]

def k0_chk5 (arg12_r0 : BitVec 32) : Prop :=
  (∀ a, (k0_off19 arg12_r0) a + S1x1x128.size a ≤ S2x1x128.size a)
theorem k0_off19_inb : ∀ (arg12_r0 : BitVec 32) (k0_hw5 : k0_chk5 arg12_r0), ∀ a, (k0_off19 arg12_r0) a + S1x1x128.size a ≤ S2x1x128.size a := fun arg12_r0 k0_hw5 => k0_hw5

def k0_off20 (arg13_r0 : BitVec 32) : Fin 3 → Nat :=
  let c2_i32_151_r0 : BitVec 32 := 2#32
  let v225_r0 : BitVec 32 := Scalar.remui arg13_r0 c2_i32_151_r0
  let c0_i32_153_r0 : BitVec 32 := 0#32
  let c0_i32_154_r0 : BitVec 32 := 0#32
  ![v225_r0.toNat, 0, 0]
def k0_cond9 (i : grid0.Coords) (k0_t1 : Fin k0_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let true_85_r0 : BitVec 1 := 1#1
  let c1_i32_84_r0 : BitVec 32 := 1#32
  let v95_r0 : BitVec 32 := Scalar.addi arg17_r0 c1_i32_84_r0
  let v96_r0 : BitVec 32 := Scalar.select true_85_r0 v95_r0 arg17_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let v99_r0 : BitVec 32 := Scalar.addi v98_r0 v4
  let v171_r0 : BitVec 1 := Scalar.cmpi .ne v89_r0 v99_r0
  let c0_i32_42_r0 : BitVec 32 := 0#32
  let c1_i32_44_r0 : BitVec 32 := 1#32
  let arg8_r0 : BitVec 32 := Scf.iv c0_i32_42_r0 c1_i32_44_r0 k0_t1
  let c3_i32_79_r0 : BitVec 32 := 3#32
  let v88_r0 : BitVec 1 := Scalar.cmpi .eq arg8_r0 c3_i32_79_r0
  let v172_r0 : BitVec 1 := Scalar.ori v171_r0 v88_r0
  let v173_r0 : BitVec 32 := Scalar.extui v172_r0
  let c0_i32_125_r0 : BitVec 32 := 0#32
  let v174_r0 : BitVec 1 := Scalar.cmpi .ne v173_r0 c0_i32_125_r0
  v174_r0

def k0_off21 (i : grid0.Coords) (arg17_r0 : BitVec 32) : Fin 2 → Nat :=
  let c128_i32_152_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let v226_r0 : BitVec 32 := Scalar.muli c128_i32_152_r0 v89_r0
  let c0_i32_155_r0 : BitVec 32 := 0#32
  ![v226_r0.toNat, 0]
def k0_off22 (arg13_r0 : BitVec 32) : Fin 1 → Nat :=
  let c2_i32_151_r0 : BitVec 32 := 2#32
  let v225_r0 : BitVec 32 := Scalar.remui arg13_r0 c2_i32_151_r0
  ![v225_r0.toNat]
def k0_off23 (arg15_r0 : BitVec 32) : Fin 3 → Nat :=
  let c2_i32_151_r0 : BitVec 32 := 2#32
  let v225_r0 : BitVec 32 := Scalar.remui arg15_r0 c2_i32_151_r0
  let c0_i32_153_r0 : BitVec 32 := 0#32
  let c0_i32_154_r0 : BitVec 32 := 0#32
  ![v225_r0.toNat, 0, 0]
def k0_cond10 (i : grid0.Coords) (k0_t1 : Fin k0_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let true_85_r0 : BitVec 1 := 1#1
  let c1_i32_84_r0 : BitVec 32 := 1#32
  let v95_r0 : BitVec 32 := Scalar.addi arg17_r0 c1_i32_84_r0
  let v96_r0 : BitVec 32 := Scalar.select true_85_r0 v95_r0 arg17_r0
  let c4_i32_86_r0 : BitVec 32 := 4#32
  let v97_r0 : BitVec 1 := Scalar.cmpi .eq v96_r0 c4_i32_86_r0
  let c0_i32_87_r0 : BitVec 32 := 0#32
  let v98_r0 : BitVec 32 := Scalar.select v97_r0 c0_i32_87_r0 v96_r0
  let v99_r0 : BitVec 32 := Scalar.addi v98_r0 v4
  let v178_r0 : BitVec 1 := Scalar.cmpi .ne v89_r0 v99_r0
  let c0_i32_42_r0 : BitVec 32 := 0#32
  let c1_i32_44_r0 : BitVec 32 := 1#32
  let arg8_r0 : BitVec 32 := Scf.iv c0_i32_42_r0 c1_i32_44_r0 k0_t1
  let c3_i32_79_r0 : BitVec 32 := 3#32
  let v88_r0 : BitVec 1 := Scalar.cmpi .eq arg8_r0 c3_i32_79_r0
  let v179_r0 : BitVec 1 := Scalar.ori v178_r0 v88_r0
  let v180_r0 : BitVec 32 := Scalar.extui v179_r0
  let c0_i32_128_r0 : BitVec 32 := 0#32
  let v181_r0 : BitVec 1 := Scalar.cmpi .ne v180_r0 c0_i32_128_r0
  v181_r0

def k0_off24 (i : grid0.Coords) (arg17_r0 : BitVec 32) : Fin 2 → Nat :=
  let c128_i32_152_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let v226_r0 : BitVec 32 := Scalar.muli c128_i32_152_r0 v89_r0
  let c0_i32_155_r0 : BitVec 32 := 0#32
  ![v226_r0.toNat, 0]
def k0_off25 (arg15_r0 : BitVec 32) : Fin 1 → Nat :=
  let c2_i32_151_r0 : BitVec 32 := 2#32
  let v225_r0 : BitVec 32 := Scalar.remui arg15_r0 c2_i32_151_r0
  ![v225_r0.toNat]
def k0_off26 (arg14_r0 : BitVec 32) : Fin 3 → Nat :=
  let c2_i32_151_r0 : BitVec 32 := 2#32
  let v225_r0 : BitVec 32 := Scalar.remui arg14_r0 c2_i32_151_r0
  let c0_i32_153_r0 : BitVec 32 := 0#32
  let c0_i32_154_r0 : BitVec 32 := 0#32
  ![v225_r0.toNat, 0, 0]
def k0_cond13 (i : grid0.Coords) (k0_t1 : Fin k0_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let true_81_r0 : BitVec 1 := 1#1
  let c1_i32_80_r0 : BitVec 32 := 1#32
  let v90_r0 : BitVec 32 := Scalar.subi arg17_r0 c1_i32_80_r0
  let v91_r0 : BitVec 32 := Scalar.select true_81_r0 v90_r0 arg17_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let v94_r0 : BitVec 32 := Scalar.addi v93_r0 v4
  let v197_r0 : BitVec 1 := Scalar.cmpi .ne v89_r0 v94_r0
  let c0_i32_42_r0 : BitVec 32 := 0#32
  let c1_i32_44_r0 : BitVec 32 := 1#32
  let arg8_r0 : BitVec 32 := Scf.iv c0_i32_42_r0 c1_i32_44_r0 k0_t1
  let c0_i32_78_r0 : BitVec 32 := 0#32
  let v87_r0 : BitVec 1 := Scalar.cmpi .eq arg8_r0 c0_i32_78_r0
  let true_137_r0 : BitVec 1 := 1#1
  let v198_r0 : BitVec 1 := Scalar.xori v87_r0 true_137_r0
  let v199_r0 : BitVec 1 := Scalar.andi v197_r0 v198_r0
  let v200_r0 : BitVec 32 := Scalar.extui v199_r0
  let c0_i32_138_r0 : BitVec 32 := 0#32
  let v201_r0 : BitVec 1 := Scalar.cmpi .ne v200_r0 c0_i32_138_r0
  v201_r0

def k0_off27 (i : grid0.Coords) (arg17_r0 : BitVec 32) : Fin 2 → Nat :=
  let c128_i32_152_r0 : BitVec 32 := 128#32
  let true_81_r0 : BitVec 1 := 1#1
  let c1_i32_80_r0 : BitVec 32 := 1#32
  let v90_r0 : BitVec 32 := Scalar.subi arg17_r0 c1_i32_80_r0
  let v91_r0 : BitVec 32 := Scalar.select true_81_r0 v90_r0 arg17_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v94_r0 : BitVec 32 := Scalar.addi v93_r0 v4
  let v226_r0 : BitVec 32 := Scalar.muli c128_i32_152_r0 v94_r0
  let c0_i32_155_r0 : BitVec 32 := 0#32
  ![v226_r0.toNat, 0]
def k0_off28 (arg14_r0 : BitVec 32) : Fin 1 → Nat :=
  let c2_i32_151_r0 : BitVec 32 := 2#32
  let v225_r0 : BitVec 32 := Scalar.remui arg14_r0 c2_i32_151_r0
  ![v225_r0.toNat]
def k0_off29 (arg16_r0 : BitVec 32) : Fin 3 → Nat :=
  let c2_i32_151_r0 : BitVec 32 := 2#32
  let v225_r0 : BitVec 32 := Scalar.remui arg16_r0 c2_i32_151_r0
  let c0_i32_153_r0 : BitVec 32 := 0#32
  let c0_i32_154_r0 : BitVec 32 := 0#32
  ![v225_r0.toNat, 0, 0]
def k0_cond14 (i : grid0.Coords) (k0_t1 : Fin k0_t1_loop.trips) (arg17_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v89_r0 : BitVec 32 := Scalar.addi arg17_r0 v4
  let true_81_r0 : BitVec 1 := 1#1
  let c1_i32_80_r0 : BitVec 32 := 1#32
  let v90_r0 : BitVec 32 := Scalar.subi arg17_r0 c1_i32_80_r0
  let v91_r0 : BitVec 32 := Scalar.select true_81_r0 v90_r0 arg17_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let v94_r0 : BitVec 32 := Scalar.addi v93_r0 v4
  let v205_r0 : BitVec 1 := Scalar.cmpi .ne v89_r0 v94_r0
  let c0_i32_42_r0 : BitVec 32 := 0#32
  let c1_i32_44_r0 : BitVec 32 := 1#32
  let arg8_r0 : BitVec 32 := Scf.iv c0_i32_42_r0 c1_i32_44_r0 k0_t1
  let c0_i32_78_r0 : BitVec 32 := 0#32
  let v87_r0 : BitVec 1 := Scalar.cmpi .eq arg8_r0 c0_i32_78_r0
  let true_141_r0 : BitVec 1 := 1#1
  let v206_r0 : BitVec 1 := Scalar.xori v87_r0 true_141_r0
  let v207_r0 : BitVec 1 := Scalar.andi v205_r0 v206_r0
  let v208_r0 : BitVec 32 := Scalar.extui v207_r0
  let c0_i32_142_r0 : BitVec 32 := 0#32
  let v209_r0 : BitVec 1 := Scalar.cmpi .ne v208_r0 c0_i32_142_r0
  v209_r0

def k0_off30 (i : grid0.Coords) (arg17_r0 : BitVec 32) : Fin 2 → Nat :=
  let c128_i32_152_r0 : BitVec 32 := 128#32
  let true_81_r0 : BitVec 1 := 1#1
  let c1_i32_80_r0 : BitVec 32 := 1#32
  let v90_r0 : BitVec 32 := Scalar.subi arg17_r0 c1_i32_80_r0
  let v91_r0 : BitVec 32 := Scalar.select true_81_r0 v90_r0 arg17_r0
  let c_m1_i32_82_r0 : BitVec 32 := 4294967295#32
  let v92_r0 : BitVec 1 := Scalar.cmpi .eq v91_r0 c_m1_i32_82_r0
  let c3_i32_83_r0 : BitVec 32 := 3#32
  let v93_r0 : BitVec 32 := Scalar.select v92_r0 c3_i32_83_r0 v91_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v94_r0 : BitVec 32 := Scalar.addi v93_r0 v4
  let v226_r0 : BitVec 32 := Scalar.muli c128_i32_152_r0 v94_r0
  let c0_i32_155_r0 : BitVec 32 := 0#32
  ![v226_r0.toNat, 0]
def k0_off31 (arg16_r0 : BitVec 32) : Fin 1 → Nat :=
  let c2_i32_151_r0 : BitVec 32 := 2#32
  let v225_r0 : BitVec 32 := Scalar.remui arg16_r0 c2_i32_151_r0
  ![v225_r0.toNat]

def k0_chk1 (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) : Prop :=
  (∀ (k0_h1 : k0_cond1 i k0_t1 arg17_r0 = 1#1), ∀ a, (k0_off4 arg9_r0) a + S1x1x128.size a ≤ S2x1x128.size a) ∧
  (∀ (k0_h1 : k0_cond1 i k0_t1 arg17_r0 = 1#1), ∀ a, (k0_off5 i arg17_r0) a + S1x128.size a ≤ S1x16384.size a) ∧
  (∀ (k0_h1 : k0_cond1 i k0_t1 arg17_r0 = 1#1), ∀ a, (k0_off6 arg9_r0) a + S1.size a ≤ S2.size a) ∧
  (∀ (k0_h2 : k0_cond2 i k0_t1 arg17_r0 = 1#1), ∀ a, (k0_off7 arg11_r0) a + S1x1x128.size a ≤ S2x1x128.size a) ∧
  (∀ (k0_h2 : k0_cond2 i k0_t1 arg17_r0 = 1#1), ∀ a, (k0_off8 i arg17_r0) a + S1x128.size a ≤ S1x16384.size a) ∧
  (∀ (k0_h2 : k0_cond2 i k0_t1 arg17_r0 = 1#1), ∀ a, (k0_off9 arg11_r0) a + S1.size a ≤ S2.size a) ∧
  (∀ (k0_h3 : k0_cond3 i k0_t1 arg17_r0 = 1#1), ∀ a, (k0_off10 arg10_r0) a + S1x1x128.size a ≤ S2x1x128.size a) ∧
  (∀ (k0_h3 : k0_cond3 i k0_t1 arg17_r0 = 1#1), ∀ a, (k0_off11 i arg17_r0) a + S1x128.size a ≤ S1x16384.size a) ∧
  (∀ (k0_h3 : k0_cond3 i k0_t1 arg17_r0 = 1#1), ∀ a, (k0_off12 arg10_r0) a + S1.size a ≤ S2.size a) ∧
  (∀ (k0_h4 : k0_cond4 i k0_t1 arg17_r0 = 1#1), ∀ a, (k0_off13 arg12_r0) a + S1x1x128.size a ≤ S2x1x128.size a) ∧
  (∀ (k0_h4 : k0_cond4 i k0_t1 arg17_r0 = 1#1), ∀ a, (k0_off14 i arg17_r0) a + S1x128.size a ≤ S1x16384.size a) ∧
  (∀ (k0_h4 : k0_cond4 i k0_t1 arg17_r0 = 1#1), ∀ a, (k0_off15 arg12_r0) a + S1.size a ≤ S2.size a) ∧
  (∀ (k0_h9 : k0_cond9 i k0_t1 arg17_r0 = 1#1), ∀ a, (k0_off20 arg13_r0) a + S1x128x128.size a ≤ S2x128x128.size a) ∧
  (∀ (k0_h9 : k0_cond9 i k0_t1 arg17_r0 = 1#1), ∀ a, (k0_off21 i arg17_r0) a + S128x128.size a ≤ S16384x128.size a) ∧
  (∀ (k0_h9 : k0_cond9 i k0_t1 arg17_r0 = 1#1), ∀ a, (k0_off22 arg13_r0) a + S1.size a ≤ S2.size a) ∧
  (∀ (k0_h10 : k0_cond10 i k0_t1 arg17_r0 = 1#1), ∀ a, (k0_off23 arg15_r0) a + S1x128x128.size a ≤ S2x128x128.size a) ∧
  (∀ (k0_h10 : k0_cond10 i k0_t1 arg17_r0 = 1#1), ∀ a, (k0_off24 i arg17_r0) a + S128x128.size a ≤ S16384x128.size a) ∧
  (∀ (k0_h10 : k0_cond10 i k0_t1 arg17_r0 = 1#1), ∀ a, (k0_off25 arg15_r0) a + S1.size a ≤ S2.size a) ∧
  (∀ (k0_h13 : k0_cond13 i k0_t1 arg17_r0 = 1#1), ∀ a, (k0_off26 arg14_r0) a + S1x128x128.size a ≤ S2x128x128.size a) ∧
  (∀ (k0_h13 : k0_cond13 i k0_t1 arg17_r0 = 1#1), ∀ a, (k0_off27 i arg17_r0) a + S128x128.size a ≤ S16384x128.size a) ∧
  (∀ (k0_h13 : k0_cond13 i k0_t1 arg17_r0 = 1#1), ∀ a, (k0_off28 arg14_r0) a + S1.size a ≤ S2.size a) ∧
  (∀ (k0_h14 : k0_cond14 i k0_t1 arg17_r0 = 1#1), ∀ a, (k0_off29 arg16_r0) a + S1x128x128.size a ≤ S2x128x128.size a) ∧
  (∀ (k0_h14 : k0_cond14 i k0_t1 arg17_r0 = 1#1), ∀ a, (k0_off30 i arg17_r0) a + S128x128.size a ≤ S16384x128.size a) ∧
  (∀ (k0_h14 : k0_cond14 i k0_t1 arg17_r0 = 1#1), ∀ a, (k0_off31 arg16_r0) a + S1.size a ≤ S2.size a)
theorem k0_off4_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h1 : k0_cond1 i k0_t1 arg17_r0 = 1#1), ∀ a, (k0_off4 arg9_r0) a + S1x1x128.size a ≤ S2x1x128.size a := fun i k0_t1 arg9_r0 arg10_r0 arg11_r0 arg12_r0 arg13_r0 arg14_r0 arg15_r0 arg16_r0 arg17_r0 k0_hw1 k0_h1 => k0_hw1.1 k0_h1
theorem k0_off5_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h1 : k0_cond1 i k0_t1 arg17_r0 = 1#1), ∀ a, (k0_off5 i arg17_r0) a + S1x128.size a ≤ S1x16384.size a := fun i k0_t1 arg9_r0 arg10_r0 arg11_r0 arg12_r0 arg13_r0 arg14_r0 arg15_r0 arg16_r0 arg17_r0 k0_hw1 k0_h1 => k0_hw1.2.1 k0_h1
theorem k0_off6_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h1 : k0_cond1 i k0_t1 arg17_r0 = 1#1), ∀ a, (k0_off6 arg9_r0) a + S1.size a ≤ S2.size a := fun i k0_t1 arg9_r0 arg10_r0 arg11_r0 arg12_r0 arg13_r0 arg14_r0 arg15_r0 arg16_r0 arg17_r0 k0_hw1 k0_h1 => k0_hw1.2.2.1 k0_h1
theorem k0_off7_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h2 : k0_cond2 i k0_t1 arg17_r0 = 1#1), ∀ a, (k0_off7 arg11_r0) a + S1x1x128.size a ≤ S2x1x128.size a := fun i k0_t1 arg9_r0 arg10_r0 arg11_r0 arg12_r0 arg13_r0 arg14_r0 arg15_r0 arg16_r0 arg17_r0 k0_hw1 k0_h2 => k0_hw1.2.2.2.1 k0_h2
theorem k0_off8_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h2 : k0_cond2 i k0_t1 arg17_r0 = 1#1), ∀ a, (k0_off8 i arg17_r0) a + S1x128.size a ≤ S1x16384.size a := fun i k0_t1 arg9_r0 arg10_r0 arg11_r0 arg12_r0 arg13_r0 arg14_r0 arg15_r0 arg16_r0 arg17_r0 k0_hw1 k0_h2 => k0_hw1.2.2.2.2.1 k0_h2
theorem k0_off9_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h2 : k0_cond2 i k0_t1 arg17_r0 = 1#1), ∀ a, (k0_off9 arg11_r0) a + S1.size a ≤ S2.size a := fun i k0_t1 arg9_r0 arg10_r0 arg11_r0 arg12_r0 arg13_r0 arg14_r0 arg15_r0 arg16_r0 arg17_r0 k0_hw1 k0_h2 => k0_hw1.2.2.2.2.2.1 k0_h2
theorem k0_off10_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h3 : k0_cond3 i k0_t1 arg17_r0 = 1#1), ∀ a, (k0_off10 arg10_r0) a + S1x1x128.size a ≤ S2x1x128.size a := fun i k0_t1 arg9_r0 arg10_r0 arg11_r0 arg12_r0 arg13_r0 arg14_r0 arg15_r0 arg16_r0 arg17_r0 k0_hw1 k0_h3 => k0_hw1.2.2.2.2.2.2.1 k0_h3
theorem k0_off11_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h3 : k0_cond3 i k0_t1 arg17_r0 = 1#1), ∀ a, (k0_off11 i arg17_r0) a + S1x128.size a ≤ S1x16384.size a := fun i k0_t1 arg9_r0 arg10_r0 arg11_r0 arg12_r0 arg13_r0 arg14_r0 arg15_r0 arg16_r0 arg17_r0 k0_hw1 k0_h3 => k0_hw1.2.2.2.2.2.2.2.1 k0_h3
theorem k0_off12_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h3 : k0_cond3 i k0_t1 arg17_r0 = 1#1), ∀ a, (k0_off12 arg10_r0) a + S1.size a ≤ S2.size a := fun i k0_t1 arg9_r0 arg10_r0 arg11_r0 arg12_r0 arg13_r0 arg14_r0 arg15_r0 arg16_r0 arg17_r0 k0_hw1 k0_h3 => k0_hw1.2.2.2.2.2.2.2.2.1 k0_h3
theorem k0_off13_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h4 : k0_cond4 i k0_t1 arg17_r0 = 1#1), ∀ a, (k0_off13 arg12_r0) a + S1x1x128.size a ≤ S2x1x128.size a := fun i k0_t1 arg9_r0 arg10_r0 arg11_r0 arg12_r0 arg13_r0 arg14_r0 arg15_r0 arg16_r0 arg17_r0 k0_hw1 k0_h4 => k0_hw1.2.2.2.2.2.2.2.2.2.1 k0_h4
theorem k0_off14_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h4 : k0_cond4 i k0_t1 arg17_r0 = 1#1), ∀ a, (k0_off14 i arg17_r0) a + S1x128.size a ≤ S1x16384.size a := fun i k0_t1 arg9_r0 arg10_r0 arg11_r0 arg12_r0 arg13_r0 arg14_r0 arg15_r0 arg16_r0 arg17_r0 k0_hw1 k0_h4 => k0_hw1.2.2.2.2.2.2.2.2.2.2.1 k0_h4
theorem k0_off15_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h4 : k0_cond4 i k0_t1 arg17_r0 = 1#1), ∀ a, (k0_off15 arg12_r0) a + S1.size a ≤ S2.size a := fun i k0_t1 arg9_r0 arg10_r0 arg11_r0 arg12_r0 arg13_r0 arg14_r0 arg15_r0 arg16_r0 arg17_r0 k0_hw1 k0_h4 => k0_hw1.2.2.2.2.2.2.2.2.2.2.2.1 k0_h4
theorem k0_off20_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h9 : k0_cond9 i k0_t1 arg17_r0 = 1#1), ∀ a, (k0_off20 arg13_r0) a + S1x128x128.size a ≤ S2x128x128.size a := fun i k0_t1 arg9_r0 arg10_r0 arg11_r0 arg12_r0 arg13_r0 arg14_r0 arg15_r0 arg16_r0 arg17_r0 k0_hw1 k0_h9 => k0_hw1.2.2.2.2.2.2.2.2.2.2.2.2.1 k0_h9
theorem k0_off21_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h9 : k0_cond9 i k0_t1 arg17_r0 = 1#1), ∀ a, (k0_off21 i arg17_r0) a + S128x128.size a ≤ S16384x128.size a := fun i k0_t1 arg9_r0 arg10_r0 arg11_r0 arg12_r0 arg13_r0 arg14_r0 arg15_r0 arg16_r0 arg17_r0 k0_hw1 k0_h9 => k0_hw1.2.2.2.2.2.2.2.2.2.2.2.2.2.1 k0_h9
theorem k0_off22_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h9 : k0_cond9 i k0_t1 arg17_r0 = 1#1), ∀ a, (k0_off22 arg13_r0) a + S1.size a ≤ S2.size a := fun i k0_t1 arg9_r0 arg10_r0 arg11_r0 arg12_r0 arg13_r0 arg14_r0 arg15_r0 arg16_r0 arg17_r0 k0_hw1 k0_h9 => k0_hw1.2.2.2.2.2.2.2.2.2.2.2.2.2.2.1 k0_h9
theorem k0_off23_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h10 : k0_cond10 i k0_t1 arg17_r0 = 1#1), ∀ a, (k0_off23 arg15_r0) a + S1x128x128.size a ≤ S2x128x128.size a := fun i k0_t1 arg9_r0 arg10_r0 arg11_r0 arg12_r0 arg13_r0 arg14_r0 arg15_r0 arg16_r0 arg17_r0 k0_hw1 k0_h10 => k0_hw1.2.2.2.2.2.2.2.2.2.2.2.2.2.2.2.1 k0_h10
theorem k0_off24_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h10 : k0_cond10 i k0_t1 arg17_r0 = 1#1), ∀ a, (k0_off24 i arg17_r0) a + S128x128.size a ≤ S16384x128.size a := fun i k0_t1 arg9_r0 arg10_r0 arg11_r0 arg12_r0 arg13_r0 arg14_r0 arg15_r0 arg16_r0 arg17_r0 k0_hw1 k0_h10 => k0_hw1.2.2.2.2.2.2.2.2.2.2.2.2.2.2.2.2.1 k0_h10
theorem k0_off25_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h10 : k0_cond10 i k0_t1 arg17_r0 = 1#1), ∀ a, (k0_off25 arg15_r0) a + S1.size a ≤ S2.size a := fun i k0_t1 arg9_r0 arg10_r0 arg11_r0 arg12_r0 arg13_r0 arg14_r0 arg15_r0 arg16_r0 arg17_r0 k0_hw1 k0_h10 => k0_hw1.2.2.2.2.2.2.2.2.2.2.2.2.2.2.2.2.2.1 k0_h10
theorem k0_off26_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h13 : k0_cond13 i k0_t1 arg17_r0 = 1#1), ∀ a, (k0_off26 arg14_r0) a + S1x128x128.size a ≤ S2x128x128.size a := fun i k0_t1 arg9_r0 arg10_r0 arg11_r0 arg12_r0 arg13_r0 arg14_r0 arg15_r0 arg16_r0 arg17_r0 k0_hw1 k0_h13 => k0_hw1.2.2.2.2.2.2.2.2.2.2.2.2.2.2.2.2.2.2.1 k0_h13
theorem k0_off27_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h13 : k0_cond13 i k0_t1 arg17_r0 = 1#1), ∀ a, (k0_off27 i arg17_r0) a + S128x128.size a ≤ S16384x128.size a := fun i k0_t1 arg9_r0 arg10_r0 arg11_r0 arg12_r0 arg13_r0 arg14_r0 arg15_r0 arg16_r0 arg17_r0 k0_hw1 k0_h13 => k0_hw1.2.2.2.2.2.2.2.2.2.2.2.2.2.2.2.2.2.2.2.1 k0_h13
theorem k0_off28_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h13 : k0_cond13 i k0_t1 arg17_r0 = 1#1), ∀ a, (k0_off28 arg14_r0) a + S1.size a ≤ S2.size a := fun i k0_t1 arg9_r0 arg10_r0 arg11_r0 arg12_r0 arg13_r0 arg14_r0 arg15_r0 arg16_r0 arg17_r0 k0_hw1 k0_h13 => k0_hw1.2.2.2.2.2.2.2.2.2.2.2.2.2.2.2.2.2.2.2.2.1 k0_h13
theorem k0_off29_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h14 : k0_cond14 i k0_t1 arg17_r0 = 1#1), ∀ a, (k0_off29 arg16_r0) a + S1x128x128.size a ≤ S2x128x128.size a := fun i k0_t1 arg9_r0 arg10_r0 arg11_r0 arg12_r0 arg13_r0 arg14_r0 arg15_r0 arg16_r0 arg17_r0 k0_hw1 k0_h14 => k0_hw1.2.2.2.2.2.2.2.2.2.2.2.2.2.2.2.2.2.2.2.2.2.1 k0_h14
theorem k0_off30_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h14 : k0_cond14 i k0_t1 arg17_r0 = 1#1), ∀ a, (k0_off30 i arg17_r0) a + S128x128.size a ≤ S16384x128.size a := fun i k0_t1 arg9_r0 arg10_r0 arg11_r0 arg12_r0 arg13_r0 arg14_r0 arg15_r0 arg16_r0 arg17_r0 k0_hw1 k0_h14 => k0_hw1.2.2.2.2.2.2.2.2.2.2.2.2.2.2.2.2.2.2.2.2.2.2.1 k0_h14
theorem k0_off31_inb : ∀ (i : grid0.Coords) (k0_t1 : Fin k0_t1_loop.trips) (arg9_r0 : BitVec 32) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (k0_hw1 : k0_chk1 i k0_t1 arg9_r0 arg10_r0 arg11_r0 arg12_r0 arg13_r0 arg14_r0 arg15_r0 arg16_r0 arg17_r0), ∀ (k0_h14 : k0_cond14 i k0_t1 arg17_r0 = 1#1), ∀ a, (k0_off31 arg16_r0) a + S1.size a ≤ S2.size a := fun i k0_t1 arg9_r0 arg10_r0 arg11_r0 arg12_r0 arg13_r0 arg14_r0 arg15_r0 arg16_r0 arg17_r0 k0_hw1 k0_h14 => k0_hw1.2.2.2.2.2.2.2.2.2.2.2.2.2.2.2.2.2.2.2.2.2.2.2 k0_h14

def k0_off32 (v46_5_r0 : BitVec 32) : Fin 3 → Nat :=
  let c2_i32_62_r0 : BitVec 32 := 2#32
  let v67_r0 : BitVec 32 := Scalar.remui v46_5_r0 c2_i32_62_r0
  let c0_i32_64_r0 : BitVec 32 := 0#32
  let c0_i32_65_r0 : BitVec 32 := 0#32
  ![v67_r0.toNat, 0, 0]

def k0_off33 (i : grid0.Coords) (v46_8_r0 : BitVec 32) : Fin 2 → Nat :=
  let c128_i32_63_r0 : BitVec 32 := 128#32
  let true_47_r0 : BitVec 1 := 1#1
  let c1_i32_46_r0 : BitVec 32 := 1#32
  let v47_r0 : BitVec 32 := Scalar.subi v46_8_r0 c1_i32_46_r0
  let v48_r0 : BitVec 32 := Scalar.select true_47_r0 v47_r0 v46_8_r0
  let c_m1_i32_48_r0 : BitVec 32 := 4294967295#32
  let v49_r0 : BitVec 1 := Scalar.cmpi .eq v48_r0 c_m1_i32_48_r0
  let c3_i32_49_r0 : BitVec 32 := 3#32
  let v50_r0 : BitVec 32 := Scalar.select v49_r0 c3_i32_49_r0 v48_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v51_r0 : BitVec 32 := Scalar.addi v50_r0 v4
  let v68_r0 : BitVec 32 := Scalar.muli c128_i32_63_r0 v51_r0
  let c0_i32_66_r0 : BitVec 32 := 0#32
  ![v68_r0.toNat, 0]

def k0_off34 (v46_5_r0 : BitVec 32) : Fin 1 → Nat :=
  let c2_i32_62_r0 : BitVec 32 := 2#32
  let v67_r0 : BitVec 32 := Scalar.remui v46_5_r0 c2_i32_62_r0
  ![v67_r0.toNat]
def k0_off35 (v46_5_r0 : BitVec 32) : Fin 3 → Nat :=
  let c2_i32_62_r0 : BitVec 32 := 2#32
  let v67_r0 : BitVec 32 := Scalar.remui v46_5_r0 c2_i32_62_r0
  let c0_i32_68_r0 : BitVec 32 := 0#32
  let c0_i32_69_r0 : BitVec 32 := 0#32
  ![v67_r0.toNat, 0, 0]

def k0_chk6 (v46_5_r0 : BitVec 32) : Prop :=
  (∀ a, (k0_off32 v46_5_r0) a + S1x128x128.size a ≤ S2x128x128.size a) ∧
  (∀ a, (k0_off34 v46_5_r0) a + S1.size a ≤ S2.size a) ∧
  (∀ a, (k0_off35 v46_5_r0) a + S1x128x128.size a ≤ S2x128x128.size a)
theorem k0_off32_inb : ∀ (v46_5_r0 : BitVec 32) (k0_hw6 : k0_chk6 v46_5_r0), ∀ a, (k0_off32 v46_5_r0) a + S1x128x128.size a ≤ S2x128x128.size a := fun v46_5_r0 k0_hw6 => k0_hw6.1
theorem k0_off34_inb : ∀ (v46_5_r0 : BitVec 32) (k0_hw6 : k0_chk6 v46_5_r0), ∀ a, (k0_off34 v46_5_r0) a + S1.size a ≤ S2.size a := fun v46_5_r0 k0_hw6 => k0_hw6.2.1
theorem k0_off35_inb : ∀ (v46_5_r0 : BitVec 32) (k0_hw6 : k0_chk6 v46_5_r0), ∀ a, (k0_off35 v46_5_r0) a + S1x128x128.size a ≤ S2x128x128.size a := fun v46_5_r0 k0_hw6 => k0_hw6.2.2

def k0_off36 (v46_7_r0 : BitVec 32) : Fin 3 → Nat :=
  let c2_i32_70_r0 : BitVec 32 := 2#32
  let v77_r0 : BitVec 32 := Scalar.remui v46_7_r0 c2_i32_70_r0
  let c0_i32_72_r0 : BitVec 32 := 0#32
  let c0_i32_73_r0 : BitVec 32 := 0#32
  ![v77_r0.toNat, 0, 0]

def k0_off37 (i : grid0.Coords) (v46_8_r0 : BitVec 32) : Fin 2 → Nat :=
  let c128_i32_71_r0 : BitVec 32 := 128#32
  let true_47_r0 : BitVec 1 := 1#1
  let c1_i32_46_r0 : BitVec 32 := 1#32
  let v47_r0 : BitVec 32 := Scalar.subi v46_8_r0 c1_i32_46_r0
  let v48_r0 : BitVec 32 := Scalar.select true_47_r0 v47_r0 v46_8_r0
  let c_m1_i32_48_r0 : BitVec 32 := 4294967295#32
  let v49_r0 : BitVec 1 := Scalar.cmpi .eq v48_r0 c_m1_i32_48_r0
  let c3_i32_49_r0 : BitVec 32 := 3#32
  let v50_r0 : BitVec 32 := Scalar.select v49_r0 c3_i32_49_r0 v48_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v51_r0 : BitVec 32 := Scalar.addi v50_r0 v4
  let v78_r0 : BitVec 32 := Scalar.muli c128_i32_71_r0 v51_r0
  let c0_i32_74_r0 : BitVec 32 := 0#32
  ![v78_r0.toNat, 0]

def k0_chk7 (i : grid0.Coords) (v46_8_r0 : BitVec 32) : Prop :=
  (∀ a, (k0_off33 i v46_8_r0) a + S128x128.size a ≤ S16384x128.size a) ∧
  (∀ a, (k0_off37 i v46_8_r0) a + S128x128.size a ≤ S16384x128.size a)
theorem k0_off33_inb : ∀ (i : grid0.Coords) (v46_8_r0 : BitVec 32) (k0_hw7 : k0_chk7 i v46_8_r0), ∀ a, (k0_off33 i v46_8_r0) a + S128x128.size a ≤ S16384x128.size a := fun i v46_8_r0 k0_hw7 => k0_hw7.1
theorem k0_off37_inb : ∀ (i : grid0.Coords) (v46_8_r0 : BitVec 32) (k0_hw7 : k0_chk7 i v46_8_r0), ∀ a, (k0_off37 i v46_8_r0) a + S128x128.size a ≤ S16384x128.size a := fun i v46_8_r0 k0_hw7 => k0_hw7.2

def k0_off38 (v46_7_r0 : BitVec 32) : Fin 1 → Nat :=
  let c2_i32_70_r0 : BitVec 32 := 2#32
  let v77_r0 : BitVec 32 := Scalar.remui v46_7_r0 c2_i32_70_r0
  ![v77_r0.toNat]

def k0_chk8 (v46_7_r0 : BitVec 32) : Prop :=
  (∀ a, (k0_off36 v46_7_r0) a + S1x128x128.size a ≤ S2x128x128.size a) ∧
  (∀ a, (k0_off38 v46_7_r0) a + S1.size a ≤ S2.size a)
theorem k0_off36_inb : ∀ (v46_7_r0 : BitVec 32) (k0_hw8 : k0_chk8 v46_7_r0), ∀ a, (k0_off36 v46_7_r0) a + S1x128x128.size a ≤ S2x128x128.size a := fun v46_7_r0 k0_hw8 => k0_hw8.1
theorem k0_off38_inb : ∀ (v46_7_r0 : BitVec 32) (k0_hw8 : k0_chk8 v46_7_r0), ∀ a, (k0_off38 v46_7_r0) a + S1.size a ≤ S2.size a := fun v46_7_r0 k0_hw8 => k0_hw8.2

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2048 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x64 : Shape := ⟨2, ![1000000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S16384x128 : Shape := ⟨2, ![16384, 128]⟩
abbrev S1x128 : Shape := ⟨2, ![1, 128]⟩
abbrev S1x64 : Shape := ⟨2, ![1, 64]⟩

abbrev nBuf : Space → Nat
  | .hbm => 103
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S1x1, .i32⟩
  | .hbm, ⟨25, _⟩ => ⟨S16384x1, .i32⟩
  | .hbm, ⟨26, _⟩ => ⟨S16384x1, .i1⟩
  | .hbm, ⟨27, _⟩ => ⟨S16384x1, .i1⟩
  | .hbm, ⟨28, _⟩ => ⟨S_, .i1⟩
  | .hbm, ⟨29, _⟩ => ⟨S16384, .i1⟩
  | .hbm, ⟨30, _⟩ => ⟨S16384x64, .f32⟩
  | .hbm, ⟨31, _⟩ => ⟨S16384x64, .i1⟩
  | .hbm, ⟨32, _⟩ => ⟨S_, .f32⟩
  | .hbm, ⟨33, _⟩ => ⟨S16384x64, .f32⟩
  | .hbm, ⟨34, _⟩ => ⟨S16384x64, .f32⟩
  | .hbm, ⟨35, _⟩ => ⟨S16384x128, .f32⟩
  | .hbm, ⟨36, _⟩ => ⟨S1x128, .f32⟩
  | .hbm, ⟨37, _⟩ => ⟨S16384x128, .f32⟩
  | .hbm, ⟨38, _⟩ => ⟨S16384x128, .f32⟩
  | .hbm, ⟨39, _⟩ => ⟨S_, .f32⟩
  | .hbm, ⟨40, _⟩ => ⟨S16384x128, .f32⟩
  | .hbm, ⟨41, _⟩ => ⟨S16384x128, .f32⟩
  | .hbm, ⟨42, _⟩ => ⟨S16384x64, .f32⟩
  | .hbm, ⟨43, _⟩ => ⟨S1x64, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x64, .f32⟩
  | .hbm, ⟨55, _⟩ => ⟨S16384x64, .f32⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S16384x1, .i32⟩
  | .hbm, ⟨64, _⟩ => ⟨S1, .i32⟩
  | .hbm, ⟨65, _⟩ => ⟨S_, .i32⟩
  | .hbm, ⟨66, _⟩ => ⟨S16384x1, .i32⟩
  | .hbm, ⟨67, _⟩ => ⟨S16384x1, .i1⟩
  | .hbm, ⟨68, _⟩ => ⟨S1x1, .i32⟩
  | .hbm, ⟨69, _⟩ => ⟨S16384x1, .i32⟩
  | .hbm, ⟨70, _⟩ => ⟨S16384x1, .i1⟩
  | .hbm, ⟨71, _⟩ => ⟨S16384x1, .i1⟩
  | .hbm, ⟨72, _⟩ => ⟨S_, .i1⟩
  | .hbm, ⟨73, _⟩ => ⟨S16384, .i1⟩
  | .hbm, ⟨74, _⟩ => ⟨S16384x64, .f32⟩
  | .hbm, ⟨75, _⟩ => ⟨S16384x64, .i1⟩
  | .hbm, ⟨76, _⟩ => ⟨S_, .f32⟩
  | .hbm, ⟨77, _⟩ => ⟨S16384x64, .f32⟩
  | .hbm, ⟨78, _⟩ => ⟨S16384x64, .f32⟩
  | .hbm, ⟨79, _⟩ => ⟨S16384x128, .f32⟩
  | .hbm, ⟨80, _⟩ => ⟨S1x128, .f32⟩
  | .hbm, ⟨81, _⟩ => ⟨S16384x128, .f32⟩
  | .hbm, ⟨82, _⟩ => ⟨S16384x128, .f32⟩
  | .hbm, ⟨83, _⟩ => ⟨S_, .f32⟩
  | .hbm, ⟨84, _⟩ => ⟨S16384x128, .f32⟩
  | .hbm, ⟨85, _⟩ => ⟨S16384x128, .f32⟩
  | .hbm, ⟨86, _⟩ => ⟨S16384x64, .f32⟩
  | .hbm, ⟨87, _⟩ => ⟨S1x64, .f32⟩
  | .hbm, ⟨88, _⟩ => ⟨S16384x64, .f32⟩
  | .hbm, ⟨89, _⟩ => ⟨S16384x64, .f32⟩
  | .hbm, ⟨90, _⟩ => ⟨S16384x64, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x64, .f32⟩
  | .hbm, ⟨99, _⟩ => ⟨S16384x64, .f32⟩
  | .hbm, ⟨100, _⟩ => ⟨S16384x64, .f32⟩
  | .hbm, ⟨101, _⟩ => ⟨S_, .f32⟩
  | .hbm, ⟨102, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_0 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst_1 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_cst_2 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_cst_3 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_cst_4 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_cst_5 : Ref sig .tc := ⟨.hbm, 101, rfl⟩
abbrev main_v39 : Ref sig .tc := ⟨.hbm, 102, rfl⟩

abbrev nD : Nat := 1
abbrev τ : Topo := Topo.v7x

variable {F : FTy → Type} [FloatOps F]
-- ==== Proof.Setup.lean ====
/-
  The launch as the proofs see it: the SparseCore configuration, the resource algebra, the names of the tiles' threads.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ViewIndex
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Tw

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
/-- A core has sixteen tiles. -/
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are its own: none is a region's, none is a tile's shared memory. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The copies of the kernel region's cells' algebra. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-- The SparseCore and the tile a point of the call's grid runs on. -/
abbrev cV (L : grid0.Coords) : Fin τ.nSC := (L 0).castLE hcore0
abbrev jV (L : grid0.Coords) : Fin τ.nSub := (L 1).castLE hsub0

end Cert.Proof.Tw
-- ==== Proof.Channel.lean ====
/-
  One of the two gathers the tile runs (user rows, item rows), as a CHANNEL: the index array it reads block by block
  into a two-slot buffer, the table it gathers rows of into a two-slot buffer, the result it writes the rows out to.
  What the tile holds of a channel at each point, and the rule of each of its six operations.
-/
module

public import proofs.«01_k».proof.Proof.Setup

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slices of a channel's arrays, at any offsets that fit -/

/-- One gather's arrays: indices `ia`, table `ta`, result `oa`; the index slots `lb`, the row slots `rb`; the
    semaphores of the slots' fetches `si` and write-outs `so`, and of the gather itself `sg`. -/
structure Chan where
  ia : Memref sig .scVector .hbm S1x16384 .i32
  ta : Memref sig .scVector .hbm S500000x128 .f32
  oa : Memref sig .scVector .hbm S16384x128 .f32
  lb : Memref sig .scVector .vmem S2x1x128 .i32
  rb : Memref sig .scVector .vmem S2x128x128 .f32
  si : DmaSems sig S2
  so : DmaSems sig S2
  sg : DmaSems sig S_

namespace Chan

variable (C : Chan)

abbrev iAt (o : Fin 2 → ℕ) (h : ∀ a, o a + S1x128.size a ≤ S1x16384.size a) : Memref sig .scVector .hbm S1x128 .i32 :=
  C.ia.slice (Rect.unit (s := S1x16384) o S1x128.size h) (fun _ => rfl)
abbrev oAt (o : Fin 2 → ℕ) (h : ∀ a, o a + S128x128.size a ≤ S16384x128.size a) : Memref sig .scVector .hbm S128x128 .f32 :=
  C.oa.slice (Rect.unit (s := S16384x128) o S128x128.size h) (fun _ => rfl)
abbrev lAt (o : Fin 3 → ℕ) (h : ∀ a, o a + S1x1x128.size a ≤ S2x1x128.size a) : Memref sig .scVector .vmem S1x128 .i32 :=
  (C.lb.slice (Rect.unit (s := S2x1x128) o S1x1x128.size h) (fun _ => rfl)).squeeze S1x128 squeezes_S1x1x128_S1x128
abbrev wAt (o : Fin 3 → ℕ) (h : ∀ a, o a + S1x1x128.size a ≤ S2x1x128.size a) : Memref sig .scVector .vmem S128 .i32 :=
  ((C.lAt o h).slice (Rect.unit (s := S1x128) ![0, 0] S1x128.size inb_S1x128_S1x128_0_0) (fun _ => rfl)).squeeze S128 squeezes_S1x128_S128
abbrev rAt (o : Fin 3 → ℕ) (h : ∀ a, o a + S1x128x128.size a ≤ S2x128x128.size a) : Memref sig .scVector .vmem S128x128 .f32 :=
  (C.rb.slice (Rect.unit (s := S2x128x128) o S1x128x128.size h) (fun _ => rfl)).squeeze S128x128 squeezes_S1x128x128_S128x128
abbrev semAt (a : DmaSems sig S2) (o : Fin 1 → ℕ) (h : ∀ a, o a + S1.size a ≤ S2.size a) : DmaSem sig :=
  ((a.slice (Rect.unit (s := S2) o S1.size h)).squeeze S_ squeezes_S1_S_).sem
abbrev tAll : Memref sig .scVector .hbm S500000x128 .f32 :=
  C.ta.slice (Rect.unit (s := S500000x128) ![0, 0] S500000x128.size inb_S500000x128_S500000x128_0_0) (fun _ => rfl)

end Chan

/-! ## The slots' and the blocks' own offsets -/

abbrev o3 (s : Fin 2) : Fin 3 → ℕ := ![s.val, 0, 0]
abbrev o1 (s : Fin 2) : Fin 1 → ℕ := ![s.val]
abbrev oI (n : Fin 128) : Fin 2 → ℕ := ![0, 128 * n.val]
abbrev oO (n : Fin 128) : Fin 2 → ℕ := ![128 * n.val, 0]

/-- The part named at these offsets lies within its array. -/
theorem o3_list (s : Fin 2) : ∀ a, o3 s a + S1x1x128.size a ≤ S2x1x128.size a := by revert s; decide
/-- The part named at these offsets lies within its array. -/
theorem o3_rows (s : Fin 2) : ∀ a, o3 s a + S1x128x128.size a ≤ S2x128x128.size a := by revert s; decide
/-- The part named at these offsets lies within its array. -/
theorem o1_sem (s : Fin 2) : ∀ a, o1 s a + S1.size a ≤ S2.size a := by revert s; decide
/-- The part named at these offsets lies within its array. -/
theorem oI_inb (n : Fin 128) : ∀ a, oI n a + S1x128.size a ≤ S1x16384.size a := by revert n; decide +kernel
/-- The part named at these offsets lies within its array. -/
theorem oO_inb (n : Fin 128) : ∀ a, oO n a + S128x128.size a ≤ S16384x128.size a := by revert n; decide +kernel

namespace Chan
variable (C : Chan)
abbrev iB (n : Fin 128) := C.iAt (oI n) (oI_inb n)
abbrev oB (n : Fin 128) := C.oAt (oO n) (oO_inb n)
abbrev lS (s : Fin 2) := C.lAt (o3 s) (o3_list s)
abbrev wS (s : Fin 2) := C.wAt (o3 s) (o3_list s)
abbrev rS (s : Fin 2) := C.rAt (o3 s) (o3_rows s)
abbrev siS (s : Fin 2) := Chan.semAt C.si (o1 s) (o1_sem s)
abbrev soS (s : Fin 2) := Chan.semAt C.so (o1 s) (o1_sem s)
end Chan

/-- An element's place in a block of 128 indices. -/
abbrev ix2 (k : Fin 128) : S1x128.Idx := fun
  | ⟨0, _⟩ => (⟨0, Nat.one_pos⟩ : Fin 1)
  | ⟨1, _⟩ => k

/-! ## What a channel computes -/

/-- A channel's data: the indices `fi`, the table `ft`, the rows `G` the call leaves in the result — the gathered
    ones (`hG`), the indices being rows of the table (`hin`). `qi s` is the share of the indices slot `s` fetches with,
    `qt` the share of the table. -/
structure Data (F : FTy → Type) (C : Chan) (d : Dev nD) (c : Fin τ.nSC) (j : Fin τ.nSub) where
  qi : Fin 2 → PosShare TreeShare
  qt : PosShare TreeShare
  fi : Buf (Elt F) (C.ia.view.loc (V d c j))
  ft : Buf (Elt F) (C.ta.view.loc (V d c j))
  G : Buf (Elt F) (C.oa.view.loc (V d c j))
  hin : ∀ n x, ((C.iB n).view.read (Elt F) fi x).toNat < 500000
  hG : ∀ (n : Fin 128) (x : S128x128.Idx) (y : S500000x128.Idx), (y 0).val = ((C.iB n).view.read (Elt F) fi (ix2 (x 0))).toNat → y 1 = x 1 →
    (C.oB n).view.read (Elt F) G x = C.tAll.view.read (Elt F) ft y

section Res
variable {C : Chan} {d : Dev nD} {c : Fin τ.nSC} {j : Fin τ.nSub} (A : Data F C d c j)

/-- An index slot, whatever it holds. -/
def ListBuf (_A : Data F C d c j) (s : Fin 2) : sProp 𝕄 := iprop(∃ f, (C.lb.view.loc (V d c j)) ↦[(C.lS s).view.set]{fullShare} f)
/-- An index slot holding block `n` of the indices. -/
def ListGot (s : Fin 2) (n : Fin 128) : sProp 𝕄 :=
  iprop(∃ f, ⌜(C.lS s).view.read (Elt F) f = (C.iB n).view.read (Elt F) A.fi⌝ ∗ (C.lb.view.loc (V d c j)) ↦[(C.lS s).view.set]{fullShare} f)
/-- The slot's semaphore at zero and its share of the indices. -/
def Fetch0 (s : Fin 2) : sProp 𝕄 :=
  iprop(semVal ((V d c j), SemLoc.dma (C.siS s)) 0 ∗ (C.ia.view.loc (V d c j)) ↦[C.ia.view.set]{A.qi s} A.fi)
def ListFree (s : Fin 2) : sProp 𝕄 := iprop(ListBuf A s ∗ Fetch0 A s)
def ListReady (s : Fin 2) (n : Fin 128) : sProp 𝕄 := iprop(ListGot A s n ∗ Fetch0 A s)
/-- The fetch of block `n` into slot `s`, in flight. -/
def ListFl (s : Fin 2) (n : Fin 128) : sProp 𝕄 :=
  iprop(Transfers.Flight countersEmb (V d c j) (SemLoc.dma (C.siS s)) (none : HIx 1) (C.lS s).view.dmaCredit
      iprop(ListGot A s n ∗ (C.ia.view.loc (V d c j)) ↦[(C.iB n).view.set]{A.qi s} A.fi)
    ∗ (C.ia.view.loc (V d c j)) ↦[C.ia.view.set \ (C.iB n).view.set]{A.qi s} A.fi)

def RowBuf (_A : Data F C d c j) (s : Fin 2) : sProp 𝕄 := iprop(∃ f, (C.rb.view.loc (V d c j)) ↦[(C.rS s).view.set]{fullShare} f)
/-- A row slot holding block `n` of the result. -/
def RowGot (s : Fin 2) (n : Fin 128) : sProp 𝕄 :=
  iprop(∃ f, ⌜(C.rS s).view.read (Elt F) f = (C.oB n).view.read (Elt F) A.G⌝ ∗ (C.rb.view.loc (V d c j)) ↦[(C.rS s).view.set]{fullShare} f)
def Out0 (_A : Data F C d c j) (s : Fin 2) : sProp 𝕄 := semVal ((V d c j), SemLoc.dma (C.soS s)) 0
def RowFree (s : Fin 2) : sProp 𝕄 := iprop(RowBuf A s ∗ Out0 A s)
def RowReady (s : Fin 2) (n : Fin 128) : sProp 𝕄 := iprop(RowGot A s n ∗ Out0 A s)
/-- Block `n` of the result before the call writes it, and after. -/
def Todo (_A : Data F C d c j) (n : Fin 128) : sProp 𝕄 := iprop(∃ f, (C.oa.view.loc (V d c j)) ↦[(C.oB n).view.set]{fullShare} f)
def Done (n : Fin 128) : sProp 𝕄 := iprop((C.oa.view.loc (V d c j)) ↦[(C.oB n).view.set]{fullShare} A.G)
/-- The write-out of slot `s` to block `n`, in flight. -/
def RowFl (s : Fin 2) (n : Fin 128) : sProp 𝕄 :=
  Transfers.Flight countersEmb (V d c j) (SemLoc.dma (C.soS s)) (none : HIx 1) (C.oB n).view.dmaCredit iprop(Done A n ∗ RowBuf A s)
def TabSh : sProp 𝕄 :=
  iprop(((C.ta.view.loc (V d c j)) ↦[C.tAll.view.set]{A.qt} A.ft) ∗ semVal ((V d c j), SemLoc.dma C.sg.sem) 0)
/-- The gather of block `n` by slot `s`'s indices into slot `s`'s rows, in flight. -/
def GatherFl (s : Fin 2) (n : Fin 128) : sProp 𝕄 :=
  Transfers.Flight countersEmb (V d c j) (SemLoc.dma C.sg.sem) (none : HIx 1) (C.rS s).view.dmaCredit
    iprop(RowGot A s n ∗ ((C.ta.view.loc (V d c j)) ↦[C.tAll.view.set]{A.qt} A.ft) ∗ ListBuf A s)

end Res

/-- What the tile has waited for, all at the transfers' index. -/
def Owes (F : FTy → Type) (thr : Thread nD τ) (O : CellTallies nD τ sig (HIx 1)) (W : Waits sig (HIx 1)) : sProp 𝕄 :=
  iprop(∃ W', ⌜∀ p ∈ W', p ∈ W ∨ p.2 = none⌝ ∗ owes thr O W')

section Rules
variable [FloatOps F]
variable {C : Chan} {d : Dev nD} {c : Fin τ.nSC} {j : Fin τ.nSub} (A : Data F C d c j)

/-- The fetch of block `n` into a free index slot. -/
theorem fetch_issue {s : Fin 2} {n : Fin 128} {oi : Fin 2 → ℕ} {hi} {ol : Fin 3 → ℕ} {hl} {os : Fin 1 → ℕ} {hs}
    (ei : oi = oI n) (el : ol = o3 s) (es : os = o1 s) {h1 h2 h3} {Q : PUnit → sProp 𝕄} :
    (ListFree A s : sProp 𝕄) ⊢ iprop((ListFl A s n -∗ Q ⟨⟩)
      -∗ wp frame (wpE (defs₀ (F := F)) 𝒱₀ (V d c j) none) Set.univ
          (Prog.lift (.enqueueDma (C.iAt oi hi) (.here (C.lAt ol hl)) (.dma (Chan.semAt C.si os hs)) h1 h2 h3)) Q) := by
  subst ei el es
  unfold ListFree ListBuf Fetch0 ListFl
  iintro ⟨⟨%f, Hl⟩, Hv, Hi⟩ Hk
  have hsub : (C.iB n).view.set ⊆ C.ia.view.set := View.set_slice_subset _ _
  ihave Hi' := (pointsTo_split_subset (ℓ := C.ia.view.loc (V d c j)) (q := A.qi s) (f := A.fi) hsub).1 $$ Hi
  icases Hi' with ⟨Hin, Hrest⟩
  rw [Prog.lift]
  iapply (Transfers.wp_dmaLocal countersEmb 𝒱₀ (V d c j) none (none : HIx 1) (C.lS s).view.dmaCredit rfl (View.dmaCredit_pos _ (by decide)) (Finset.Subset.refl _)) $$ [Hin Hl Hv]
  · isplitl [Hin]; · iexact Hin
    isplitl [Hl]; · iexact Hl
    iexact Hv
  iintro Hf
  rw [wp_ret]
  imodintro
  iapply Hk
  isplitl [Hf]
  · iapply (Transfers.Flight_mono countersEmb (V d c j) ?_) $$ Hf
    iintro ⟨Hl, Hi⟩
    isplitl [Hl]
    · unfold ListGot
      iexists ((C.lS s).view.write (Elt F) f ((C.iB n).view.read (Elt F) A.fi) Finset.univ)
      isplitr
      · ipureintro; exact View.read_write_univ _ _
      · iexact Hl
    · iexact Hi
  · iexact Hrest

/-- Waiting for it: the slot holds block `n`. -/
theorem fetch_wait {O : CellTallies nD τ sig (HIx 1)} {W : Waits sig (HIx 1)} {s : Fin 2} {n : Fin 128} {oi : Fin 2 → ℕ} {hi} {ol : Fin 3 → ℕ} {hl}
    {os : Fin 1 → ℕ} {hs} (es : os = o1 s) {h1 h2} {Q : PUnit → sProp 𝕄} :
    iprop(ListFl A s n ∗ Owes F (V d c j) O W ∗ Transfers.MayWaits (V d c j) (none : HIx 1) O) ⊢ iprop((iprop(ListReady A s n ∗ Owes F (V d c j) O W) -∗ Q ⟨⟩)
      -∗ wp frame (wpE (defs₀ (F := F)) 𝒱₀ (V d c j) none) Set.univ
          (Prog.lift (.waitDma2 (Chan.semAt C.si os hs) (C.iAt oi hi) (C.lAt ol hl) h1 h2)) Q) := by
  subst es
  unfold ListFl Owes ListReady Fetch0
  iintro ⟨⟨Hf, Hrest⟩, ⟨%W', %hW, HO⟩, Hmw⟩ Hk
  rw [Prog.lift]
  iapply (Transfers.wp_waitLocalO countersEmb 𝒱₀ (V d c j) none (none : HIx 1) (srcw := C.iAt oi hi) (dstw := C.lAt ol hl) (hsrc := h1) (hdst := h2)
    (N := (C.lS s).view.dmaCredit) rfl) $$ [Hf HO Hmw]
  · isplitl [Hf]; · iexact Hf
    isplitl [HO]; · iexact HO
    iapply (Transfers.MayWaits.elim _) $$ Hmw
  iintro ⟨⟨Hl, Hi⟩, Hv, HO⟩
  rw [wp_ret]
  imodintro
  iapply Hk
  isplitr [HO]
  · isplitl [Hl]; · iexact Hl
    isplitl [Hv]; · iexact Hv
    have hsub : (C.iB n).view.set ⊆ C.ia.view.set := View.set_slice_subset _ _
    iapply (pointsTo_split_subset (ℓ := C.ia.view.loc (V d c j)) (q := A.qi s) (f := A.fi) hsub).2
    isplitl [Hi]; · iexact Hi
    iexact Hrest
  · iexists (insert (SemLoc.dma (C.siS s), none) W')
    isplitr
    · ipureintro
      intro p hp
      rcases Finset.mem_insert.mp hp with rfl | hp
      · exact Or.inr rfl
      · exact hW p hp
    · iexact HO

/-- A slot's list, as the gather names it, reads as the slot does. -/
theorem wAt_read {f : Buf (Elt F) (C.lb.view.loc (V d c j))} (s : Fin 2) (x : S128.Idx) :
    (C.wS s).view.read (Elt F) f x = (C.lS s).view.read (Elt F) f (ix2 (x 0)) := by
  rw [View.read_apply, View.read_apply]
  have : (C.wS s).view.emb x = (C.lS s).view.emb (ix2 (x 0)) := by
    change (C.lS s).view.emb ((Rect.unit (s := S1x128) ![0, 0] S1x128.size inb_S1x128_S1x128_0_0).emb (Shape.reshapeEquiv _ x)) = _
    congr 1
    rw [Shape.reshapeEquiv_cons_one]
    funext a
    apply Fin.ext
    rw [Rect.emb_apply]
    match a with
    | ⟨0, _⟩ => rfl
    | ⟨1, _⟩ => exact (show 0 + 1 * (x 0).val = (x 0).val by omega)
  rw [this]

/-- Both views of a slot of the list buffer name the same elements. -/
theorem wAt_set (s : Fin 2) : (C.wS s).view.set = (C.lS s).view.set := by
  rw [View.set_reshape, View.set_slice]
  have : (Rect.unit (s := S1x128) ![0, 0] S1x128.size inb_S1x128_S1x128_0_0).set = Finset.univ := by
    decide +kernel
  rw [this]; rfl

/-- The gather, issued: the rows slot `s`'s indices name go to slot `s`'s rows. -/
theorem gather_issue {s : Fin 2} {n : Fin 128} {ol : Fin 3 → ℕ} {hl} {or : Fin 3 → ℕ} {hr}
    (el : ol = o3 s) (er : or = o3 s) {hp h1 h2 h3 h4 h5} {Q : PUnit → sProp 𝕄} :
    iprop(ListGot A s n ∗ RowBuf A s ∗ TabSh A) ⊢ iprop((GatherFl A s n -∗ Q ⟨⟩)
      -∗ wp frame (wpE (defs₀ (F := F)) 𝒱₀ (V d c j) none) Set.univ
          (SparseCore.enqueueIndirectGather hp C.tAll (C.rAt or hr) gathers_S500000x128_S128x128 (C.wAt ol hl) h1 C.sg.sem h2 h3 h4 h5) Q) := by
  subst el er
  unfold ListGot RowBuf TabSh
  iintro ⟨⟨%f, %hf, Hl⟩, ⟨%fr, Hr⟩, Ht, Hv⟩ Hk
  have hin : ∀ x, ((C.wS s).view.read (Elt F) f x).toNat < S500000x128.size gathers_S500000x128_S128x128.axis := fun x => by
    rw [wAt_read (d := d) (c := c) (j := j), hf]; exact A.hin _ _
  iapply (SparseCore.wp_indirectGatherLocal countersEmb 𝒱₀ (V d c j) none (k := Prog.ret) (hp := hp) (hsrc := h2) (he := h3) (hsp := h4) (hr := h5) (none : HIx 1) (C.rS s).view.dmaCredit
    (SparseCore.sum_rowCredit_eq_dmaCredit _ _ (fun _ => rfl)) (by decide) hin) $$ [Hl Hr Ht Hv]
  · isplitl [Ht]; · iexact Ht
    isplitl [Hr]; · iexact Hr
    isplitl [Hl]; · rw [wAt_set]; iexact Hl
    iexact Hv
  iintro Hf
  rw [wp_ret]
  imodintro
  iapply Hk
  unfold GatherFl
  iapply (Transfers.Flight_mono countersEmb (V d c j) ?_) $$ Hf
  iintro ⟨Hr, Ht, Hl⟩
  isplitl [Hr]
  · unfold RowGot
    iexists ((C.rS s).view.write (Elt F) fr (gatherPayload gathers_S500000x128_S128x128 (C.tAll.view.read (Elt F) A.ft)
      (rows ((C.wS s).view.read (Elt F) f) h1 hin)) Finset.univ)
    isplitr
    · ipureintro
      refine (View.read_write_univ _ _).trans ?_
      funext x
      symm
      refine A.hG n x _ ?_ ?_
      · have e := gathers_S500000x128_S128x128.idx_axis (rows ((C.wS s).view.read (Elt F) f) h1 hin) x
        refine (congrArg Fin.val e).trans ?_
        change ((C.wS s).view.read (Elt F) f _).toNat = _
        rw [wAt_read (d := d) (c := c) (j := j), hf]
        have hk : ∀ k : Fin S128.numel, (S128.rowMajor.symm k) 0 = (k.cast rfl : Fin 128) := fun k => Fin.ext (by
          have h := congrArg Fin.val (S128.rowMajor.apply_symm_apply k)
          rw [Shape.rowMajor_val_one] at h
          exact h)
        rw [hk]
        rfl
      · exact Fin.ext (gathers_S500000x128_S128x128.idx_of_ne _ x 1 (by decide))
    · iexact Hr
  isplitl [Ht]; · iexact Ht
  unfold ListBuf
  iexists f
  rw [wAt_set]
  iexact Hl

/-- Waiting for the gather: slot `s`'s rows are block `n` of the result. -/
theorem gather_wait {O : CellTallies nD τ sig (HIx 1)} {W : Waits sig (HIx 1)} {s : Fin 2} {n : Fin 128} {or : Fin 3 → ℕ} {hr} {h1 h2} {Q : PUnit → sProp 𝕄} :
    iprop(GatherFl A s n ∗ Owes F (V d c j) O W ∗ Transfers.MayWaits (V d c j) (none : HIx 1) O) ⊢ iprop((iprop((RowGot A s n ∗ TabSh A ∗ ListBuf A s) ∗ Owes F (V d c j) O W) -∗ Q ⟨⟩)
      -∗ wp frame (wpE (defs₀ (F := F)) 𝒱₀ (V d c j) none) Set.univ
          (SparseCore.waitIndirectGather C.sg.sem C.tAll (C.rAt or hr) h1 h2) Q) := by
  unfold GatherFl Owes TabSh
  iintro ⟨Hf, ⟨%W', %hW, HO⟩, Hmw⟩ Hk
  unfold SparseCore.waitIndirectGather
  iapply (Transfers.wp_waitLocalO countersEmb 𝒱₀ (V d c j) none (none : HIx 1) (srcw := C.tAll) (dstw := C.rAt or hr) (hsrc := h1) (hdst := h2)
    (N := (C.rS s).view.dmaCredit) rfl) $$ [Hf HO Hmw]
  · isplitl [Hf]; · iexact Hf
    isplitl [HO]; · iexact HO
    iapply (Transfers.MayWaits.elim _) $$ Hmw
  iintro ⟨⟨Hr, Ht, Hl⟩, Hv, HO⟩
  rw [wp_ret]
  imodintro
  iapply Hk
  isplitr [HO]
  · isplitl [Hr]; · iexact Hr
    isplitr [Hl]
    · isplitl [Ht]; · iexact Ht
      iexact Hv
    · iexact Hl
  · iexists (insert (SemLoc.dma C.sg.sem, none) W')
    isplitr
    · ipureintro
      intro p hp
      rcases Finset.mem_insert.mp hp with rfl | hp
      · exact Or.inr rfl
      · exact hW p hp
    · iexact HO

/-- The write-out of slot `s` to block `n` of the result. -/
theorem out_issue {s : Fin 2} {n : Fin 128} {oo : Fin 2 → ℕ} {ho} {or : Fin 3 → ℕ} {hr} {os : Fin 1 → ℕ} {hs}
    (eo : oo = oO n) (er : or = o3 s) (es : os = o1 s) {h1 h2 h3} {Q : PUnit → sProp 𝕄} :
    iprop(RowReady A s n ∗ Todo A n) ⊢ iprop((RowFl A s n -∗ Q ⟨⟩)
      -∗ wp frame (wpE (defs₀ (F := F)) 𝒱₀ (V d c j) none) Set.univ
          (Prog.lift (.enqueueDma (C.rAt or hr) (.here (C.oAt oo ho)) (.dma (Chan.semAt C.so os hs)) h1 h2 h3)) Q) := by
  subst eo er es
  unfold RowReady RowGot Todo Out0 RowFl
  iintro ⟨⟨⟨%f, %hf, Hr⟩, Hv⟩, ⟨%fo, Ho⟩⟩ Hk
  rw [Prog.lift]
  iapply (Transfers.wp_dmaLocal countersEmb 𝒱₀ (V d c j) none (none : HIx 1) (C.oB n).view.dmaCredit rfl (View.dmaCredit_pos _ (by decide)) (Finset.Subset.refl _)) $$ [Hr Ho Hv]
  · isplitl [Hr]; · iexact Hr
    isplitl [Ho]; · iexact Ho
    iexact Hv
  iintro Hf
  rw [wp_ret]
  imodintro
  iapply Hk
  iapply (Transfers.Flight_mono countersEmb (V d c j) ?_) $$ Hf
  iintro ⟨Ho, Hr⟩
  isplitl [Ho]
  · unfold Done
    rw [pointsTo_congr (f := A.G) (g := (C.oB n).view.write (Elt F) fo ((C.rS s).view.read (Elt F) f) Finset.univ) ?_]
    · iexact Ho
    · intro i hi
      obtain ⟨x, -, rfl⟩ := Finset.mem_map.mp hi
      exact View.eq_of_read_eq (congrFun (show (C.oB n).view.read (Elt F) A.G = (C.oB n).view.read (Elt F) ((C.oB n).view.write (Elt F) fo ((C.rS s).view.read (Elt F) f) Finset.univ)
        from ((View.read_write_univ _ _).trans hf).symm) x)
  · unfold RowBuf
    iexists f
    iexact Hr

/-- Waiting for it: block `n` of the result is written, the slot free. -/
theorem out_wait {O : CellTallies nD τ sig (HIx 1)} {W : Waits sig (HIx 1)} {s : Fin 2} {n : Fin 128} {oo : Fin 2 → ℕ} {ho} {or : Fin 3 → ℕ} {hr}
    {os : Fin 1 → ℕ} {hs} (es : os = o1 s) {h1 h2} {Q : PUnit → sProp 𝕄} :
    iprop(RowFl A s n ∗ Owes F (V d c j) O W ∗ Transfers.MayWaits (V d c j) (none : HIx 1) O) ⊢ iprop((iprop((RowFree A s ∗ Done A n) ∗ Owes F (V d c j) O W) -∗ Q ⟨⟩)
      -∗ wp frame (wpE (defs₀ (F := F)) 𝒱₀ (V d c j) none) Set.univ
          (Prog.lift (.waitDma2 (Chan.semAt C.so os hs) (C.rAt or hr) (C.oAt oo ho) h1 h2)) Q) := by
  subst es
  unfold RowFl Owes RowFree Out0
  iintro ⟨Hf, ⟨%W', %hW, HO⟩, Hmw⟩ Hk
  rw [Prog.lift]
  iapply (Transfers.wp_waitLocalO countersEmb 𝒱₀ (V d c j) none (none : HIx 1) (srcw := C.rAt or hr) (dstw := C.oAt oo ho) (hsrc := h1) (hdst := h2)
    (N := (C.oB n).view.dmaCredit) rfl) $$ [Hf HO Hmw]
  · isplitl [Hf]; · iexact Hf
    isplitl [HO]; · iexact HO
    iapply (Transfers.MayWaits.elim _) $$ Hmw
  iintro ⟨⟨Hd, Hr⟩, Hv, HO⟩
  rw [wp_ret]
  imodintro
  iapply Hk
  isplitr [HO]
  · isplitr [Hd]
    · isplitl [Hr]; · iexact Hr
      iexact Hv
    · iexact Hd
  · iexists (insert (SemLoc.dma (C.soS s), none) W')
    isplitr
    · ipureintro
      intro p hp
      rcases Finset.mem_insert.mp hp with rfl | hp
      · exact Or.inr rfl
      · exact hW p hp
    · iexact HO

end Rules

end Cert.Proof.Tw
-- ==== Proof.Words.lean ====
/-
  The words the tile's loop carries, as functions of the trip: which slot each operation uses, which block it moves,
  which of the conditional operations happen.
-/
module

public import proofs.«01_k».proof.Proof.Channel

@[expose] public section

noncomputable section

namespace Cert.Proof.Tw

open Cert.KernelIdeal Cert.KernelIdeal.Gen
open Idealize.ShloMosaic

/-- The slot of trip `t`, of the two. -/
def sl (t : ℕ) : Fin 2 := ⟨t % 2, Nat.mod_lt _ Nat.two_pos⟩
/-- The block of 128 rows that trip `t` of the tile at `i` handles: four consecutive blocks per tile. -/
def blk (i : grid0.Coords) (t : ℕ) : Fin 128 := ⟨(4 * ((i 1).val + 16 * (i 0).val) + t) % 128, Nat.mod_lt _ (by decide)⟩

/-- The words carried into trip `t`: the fetch counters, the counters of what is waited for, of what is written, of
    the write-outs waited for, and the trip itself (wrapping at four). -/
def wA (t : ℕ) : BitVec 32 := BitVec.ofNat 32 (min (t + 1) 4)
/-- The words of what is waited for and written. -/
def wB (t : ℕ) : BitVec 32 := BitVec.ofNat 32 t
/-- The words of the write-outs waited for. -/
def wD (t : ℕ) : BitVec 32 := BitVec.ofNat 32 (t - 1)
/-- The trip itself, wrapping at four. -/
def wE (t : ℕ) : BitVec 32 := BitVec.ofNat 32 (t % 4)
abbrev words (t : ℕ) : BitVec 32 × BitVec 32 × BitVec 32 × BitVec 32 × BitVec 32 × BitVec 32 × BitVec 32 × BitVec 32 × BitVec 32 :=
  (wA t, wB t, wA t, wB t, wB t, wD t, wB t, wD t, wE t)
/-- The tile's first block, as the program computes it. -/
def v4w (i : grid0.Coords) : BitVec 32 :=
  Scalar.muli (Scalar.addi (Scalar.addi 0#32 (Scalar.muli (BitVec.ofNat 32 (i 1).val) 1#32)) (Scalar.muli (BitVec.ofNat 32 (i 0).val) 16#32)) 4#32

abbrev Tr := Fin k0_t1_loop.trips

/-- Two trips on, the slot is the same. -/
theorem sl_add_two (t : ℕ) : sl (t + 2) = sl t := Fin.ext (by simp [sl])

/-- The side condition holds in every trip. -/
theorem chk5_ok : ∀ t : Tr, k0_chk5 (wB t.val) := by decide +kernel
/-- The side condition holds in every trip. -/
theorem chk4_ok : ∀ t : Tr, k0_chk4 (wB t.val) := by decide +kernel
/-- The side condition holds in every trip. -/
theorem chk3_ok : ∀ t : Tr, k0_chk3 (wB t.val) := by decide +kernel
/-- The side condition holds in every trip. -/
theorem chk2_ok : ∀ t : Tr, k0_chk2 (wB t.val) := by decide +kernel
/-- The side condition holds in every trip. -/
theorem chk1_ok : ∀ (i : grid0.Coords) (t : Tr),
    k0_chk1 i t (wA t.val) (wB t.val) (wA t.val) (wB t.val) (wB t.val) (wD t.val) (wB t.val) (wD t.val) (wE t.val) := by decide +kernel

/-- When this conditional operation happens: in these trips only. -/
theorem cond1_iff : ∀ (i : grid0.Coords) (t : Tr), k0_cond1 i t (wE t.val) = 1#1 ↔ t.val < 3 := by decide +kernel
/-- When this conditional operation happens: in these trips only. -/
theorem cond2_iff : ∀ (i : grid0.Coords) (t : Tr), k0_cond2 i t (wE t.val) = 1#1 ↔ t.val < 3 := by decide +kernel
/-- When this conditional operation happens: in every trip. -/
theorem cond3_ok : ∀ (i : grid0.Coords) (t : Tr), k0_cond3 i t (wE t.val) = 1#1 := by decide +kernel
/-- When this conditional operation happens: in every trip. -/
theorem cond4_ok : ∀ (i : grid0.Coords) (t : Tr), k0_cond4 i t (wE t.val) = 1#1 := by decide +kernel
/-- When this conditional operation happens: in every trip. -/
theorem cond9_ok : ∀ (i : grid0.Coords) (t : Tr), k0_cond9 i t (wE t.val) = 1#1 := by decide +kernel
/-- When this conditional operation happens: in every trip. -/
theorem cond10_ok : ∀ (i : grid0.Coords) (t : Tr), k0_cond10 i t (wE t.val) = 1#1 := by decide +kernel
/-- When this conditional operation happens: in these trips only. -/
theorem cond13_iff : ∀ (i : grid0.Coords) (t : Tr), k0_cond13 i t (wE t.val) = 1#1 ↔ 0 < t.val := by decide +kernel
/-- When this conditional operation happens: in these trips only. -/
theorem cond14_iff : ∀ (i : grid0.Coords) (t : Tr), k0_cond14 i t (wE t.val) = 1#1 ↔ 0 < t.val := by decide +kernel

/-- The offset that the program computes is that of the slot or block named. -/
theorem off4_ok : ∀ t : Tr, k0_off4 (wA t.val) = o3 (sl (t.val + 1)) := by decide +kernel
/-- The offset that the program computes is that of the slot or block named. -/
theorem off5_ok : ∀ (i : grid0.Coords) (t : Tr), t.val < 3 → k0_off5 i (wE t.val) = oI (blk i (t.val + 1)) := by decide +kernel
/-- The offset that the program computes is that of the slot or block named. -/
theorem off6_ok : ∀ t : Tr, k0_off6 (wA t.val) = o1 (sl (t.val + 1)) := by decide +kernel
/-- The offset that the program computes is that of the slot or block named. -/
theorem off7_ok : ∀ t : Tr, k0_off7 (wA t.val) = o3 (sl (t.val + 1)) := by decide +kernel
/-- The offset that the program computes is that of the slot or block named. -/
theorem off8_ok : ∀ (i : grid0.Coords) (t : Tr), t.val < 3 → k0_off8 i (wE t.val) = oI (blk i (t.val + 1)) := by decide +kernel
/-- The offset that the program computes is that of the slot or block named. -/
theorem off9_ok : ∀ t : Tr, k0_off9 (wA t.val) = o1 (sl (t.val + 1)) := by decide +kernel
/-- The offset that the program computes is that of the slot or block named. -/
theorem off12_ok : ∀ t : Tr, k0_off12 (wB t.val) = o1 (sl t.val) := by decide +kernel
/-- The offset that the program computes is that of the slot or block named. -/
theorem off15_ok : ∀ t : Tr, k0_off15 (wB t.val) = o1 (sl t.val) := by decide +kernel
/-- The offset that the program computes is that of the slot or block named. -/
theorem off16_ok : ∀ t : Tr, k0_off16 (wB t.val) = o3 (sl t.val) := by decide +kernel
/-- The offset that the program computes is that of the slot or block named. -/
theorem off17_ok : ∀ t : Tr, k0_off17 (wB t.val) = o3 (sl t.val) := by decide +kernel
/-- The offset that the program computes is that of the slot or block named. -/
theorem off18_ok : ∀ t : Tr, k0_off18 (wB t.val) = o3 (sl t.val) := by decide +kernel
/-- The offset that the program computes is that of the slot or block named. -/
theorem off19_ok : ∀ t : Tr, k0_off19 (wB t.val) = o3 (sl t.val) := by decide +kernel
/-- The offset that the program computes is that of the slot or block named. -/
theorem off20_ok : ∀ t : Tr, k0_off20 (wB t.val) = o3 (sl t.val) := by decide +kernel
/-- The offset that the program computes is that of the slot or block named. -/
theorem off21_ok : ∀ (i : grid0.Coords) (t : Tr), k0_off21 i (wE t.val) = oO (blk i t.val) := by decide +kernel
/-- The offset that the program computes is that of the slot or block named. -/
theorem off22_ok : ∀ t : Tr, k0_off22 (wB t.val) = o1 (sl t.val) := by decide +kernel
/-- The offset that the program computes is that of the slot or block named. -/
theorem off23_ok : ∀ t : Tr, k0_off23 (wB t.val) = o3 (sl t.val) := by decide +kernel
/-- The offset that the program computes is that of the slot or block named. -/
theorem off24_ok : ∀ (i : grid0.Coords) (t : Tr), k0_off24 i (wE t.val) = oO (blk i t.val) := by decide +kernel
/-- The offset that the program computes is that of the slot or block named. -/
theorem off25_ok : ∀ t : Tr, k0_off25 (wB t.val) = o1 (sl t.val) := by decide +kernel
/-- The offset that the program computes is that of the slot or block named. -/
theorem off28_ok : ∀ t : Tr, 0 < t.val → k0_off28 (wD t.val) = o1 (sl (t.val + 1)) := by decide +kernel
/-- The offset that the program computes is that of the slot or block named. -/
theorem off31_ok : ∀ t : Tr, 0 < t.val → k0_off31 (wD t.val) = o1 (sl (t.val + 1)) := by decide +kernel
/-- The offset used before the loop, of the first block's slot or of the block itself. -/
theorem off2_ok : ∀ i : grid0.Coords, k0_off2 i = oI (blk i 0) := by decide +kernel

/-- The side condition holds in every trip. -/
theorem chk8_ok : k0_chk8 (wD 4) := by decide +kernel
/-- The side condition holds in every trip. -/
theorem chk7_ok : ∀ i : grid0.Coords, k0_chk7 i (wE 4) := by decide +kernel
/-- The side condition holds in every trip. -/
theorem chk6_ok : k0_chk6 (wD 4) := by decide +kernel
/-- The offset that the program computes is that of the slot or block named. -/
theorem off34_ok : k0_off34 (wD 4) = o1 (sl 3) := by decide +kernel
/-- The offset that the program computes is that of the slot or block named. -/
theorem off38_ok : k0_off38 (wD 4) = o1 (sl 3) := by decide +kernel
/-- The loop makes four trips. -/
theorem trips_eq : k0_t1_loop.trips = 4 := by decide +kernel

end Cert.Proof.Tw
-- ==== Proof.Trip.lean ====
/-
  One trip of the tile's loop, on both channels: fetch the next block of indices, wait for this one's, gather its rows,
  start writing them out, wait for the last block's write-out.
-/
module

public import proofs.«01_k».proof.Proof.Words

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Cond
variable {C : Chan} {d : Dev nD} {c : Fin τ.nSC} {j : Fin τ.nSub} (A : Data F C d c j)
variable {p p' : Prop} [Decidable p] [Decidable p'] {α : Type}

/-- A fetch made under a condition. -/
theorem cond_fetch (hp : p ↔ p') {s : Fin 2} {n : Fin 128} {a : p → Prog (TpuEff nD τ sig (Elt F) Λ₀ (V d c j).2) PUnit}
    {k : Prog (TpuEff nD τ sig (Elt F) Λ₀ (V d c j).2) α}
    (ha : ∀ h (Q : PUnit → sProp 𝕄), p' → (ListFree A s : sProp 𝕄) ⊢ iprop((ListFl A s n -∗ Q ⟨⟩)
      -∗ wp frame (wpE (defs₀ (F := F)) 𝒱₀ (V d c j) none) Set.univ (a h) Q)) {Q : α → sProp 𝕄} :
    (ListFree A s : sProp 𝕄) ⊢ iprop(((if p' then ListFl A s n else ListFree A s) -∗ wp frame (wpE (defs₀ (F := F)) 𝒱₀ (V d c j) none) Set.univ k Q)
      -∗ wp frame (wpE (defs₀ (F := F)) 𝒱₀ (V d c j) none) Set.univ (if h : p then a h >>= fun _ => k else k) Q) := by
  by_cases h : p
  · rw [dif_pos h, if_pos (hp.mp h), wp_bind]
    exact ha h (fun _ => wp frame (wpE (defs₀ (F := F)) 𝒱₀ (V d c j) none) Set.univ k Q) (hp.mp h)
  · rw [dif_neg h, if_neg (fun h' => h (hp.mpr h'))]
    iintro H Hk
    iapply Hk $$ H

/-- A wait for a write-out made under a condition. -/
theorem cond_out (hp : p ↔ p') {s : Fin 2} {n : Fin 128} {O : CellTallies nD τ sig (HIx 1)} {W : Waits sig (HIx 1)}
    {a : p → Prog (TpuEff nD τ sig (Elt F) Λ₀ (V d c j).2) PUnit} {k : Prog (TpuEff nD τ sig (Elt F) Λ₀ (V d c j).2) α}
    (ha : ∀ h (Q : PUnit → sProp 𝕄), p' → iprop(RowFl A s n ∗ Owes F (V d c j) O W ∗ Transfers.MayWaits (V d c j) (none : HIx 1) O)
      ⊢ iprop((iprop((RowFree A s ∗ Done A n) ∗ Owes F (V d c j) O W) -∗ Q ⟨⟩)
      -∗ wp frame (wpE (defs₀ (F := F)) 𝒱₀ (V d c j) none) Set.univ (a h) Q)) {Q : α → sProp 𝕄} :
    iprop((if p' then RowFl A s n else RowFree A s) ∗ Owes F (V d c j) O W ∗ Transfers.MayWaits (V d c j) (none : HIx 1) O)
      ⊢ iprop((iprop((RowFree A s ∗ (if p' then Done A n else emp)) ∗ Owes F (V d c j) O W)
          -∗ wp frame (wpE (defs₀ (F := F)) 𝒱₀ (V d c j) none) Set.univ k Q)
      -∗ wp frame (wpE (defs₀ (F := F)) 𝒱₀ (V d c j) none) Set.univ (if h : p then a h >>= fun _ => k else k) Q) := by
  by_cases h : p
  · rw [dif_pos h, if_pos (hp.mp h), if_pos (hp.mp h), wp_bind]
    exact ha h (fun _ => wp frame (wpE (defs₀ (F := F)) 𝒱₀ (V d c j) none) Set.univ k Q) (hp.mp h)
  · have h' : ¬ p' := fun h' => h (hp.mpr h')
    rw [dif_neg h, if_neg h', if_neg h']
    iintro ⟨H, HO, -⟩ Hk
    iapply Hk
    isplitl [H]
    · isplitl [H]; · iexact H
      iempintro
    · iexact HO

end Cond

section Steps
variable {d : Dev nD} {c : Fin τ.nSC} {j : Fin τ.nSub} {α : Type}

/-- A check that holds passes, handing on the fact. -/
theorem assume_bind {P : Prop} {dec : Decidable P} (h : P) {k : PLift P → Prog (TpuEff nD τ sig (Elt F) Λ₀ (V d c j).2) α} {Q : α → sProp 𝕄} :
    wp frame (wpE (defs₀ (F := F)) 𝒱₀ (V d c j) none) Set.univ (k ⟨h⟩) Q
      ⊢ wp frame (wpE (defs₀ (F := F)) 𝒱₀ (V d c j) none) Set.univ (Prog.lift (.assume P dec) >>= k) Q :=
  wp_assume 𝒱₀ (V d c j) none Set.univ h

/-- A condition that holds takes its branch. -/
theorem cond_pos {p : Prop} [Decidable p] (h : p) {a : p → Prog (TpuEff nD τ sig (Elt F) Λ₀ (V d c j).2) α}
    {b : ¬ p → Prog (TpuEff nD τ sig (Elt F) Λ₀ (V d c j).2) α} {Q : α → sProp 𝕄} :
    wp frame (wpE (defs₀ (F := F)) 𝒱₀ (V d c j) none) Set.univ (a h) Q
      ⊢ wp frame (wpE (defs₀ (F := F)) 𝒱₀ (V d c j) none) Set.univ (if h : p then a h else b h) Q := by
  rw [dif_pos h]

/-- A condition that changes nothing is passed over. -/
theorem cond_same {p : Prop} [Decidable p] {k : Prog (TpuEff nD τ sig (Elt F) Λ₀ (V d c j).2) α} {Q : α → sProp 𝕄} :
    wp frame (wpE (defs₀ (F := F)) 𝒱₀ (V d c j) none) Set.univ k Q
      ⊢ wp frame (wpE (defs₀ (F := F)) 𝒱₀ (V d c j) none) Set.univ (if p then k else k) Q := by
  rw [ite_self]

/-- An operation, then the rest. -/
theorem then_bind {β : Type} {a : Prog (TpuEff nD τ sig (Elt F) Λ₀ (V d c j).2) β} {k : β → Prog (TpuEff nD τ sig (Elt F) Λ₀ (V d c j).2) α} {Q : α → sProp 𝕄} :
    wp frame (wpE (defs₀ (F := F)) 𝒱₀ (V d c j) none) Set.univ a (fun x => wp frame (wpE (defs₀ (F := F)) 𝒱₀ (V d c j) none) Set.univ (k x) Q)
      ⊢ wp frame (wpE (defs₀ (F := F)) 𝒱₀ (V d c j) none) Set.univ (a >>= k) Q := by
  rw [wp_bind]

/-- A return. -/
theorem then_pure {a : α} {Q : α → sProp 𝕄} :
    (Q a : sProp 𝕄) ⊢ wp frame (wpE (defs₀ (F := F)) 𝒱₀ (V d c j) none) Set.univ (pure a) Q := by
  rw [wp_pure]; iintro H; imodintro; iexact H

end Steps

/-! ## The trip, part by part -/

/-- The words the trip computes on the way. -/
abbrev a8 (t : ℕ) : BitVec 32 := Scf.iv 0#32 1#32 t
abbrev c87 (t : ℕ) : BitVec 1 := Scalar.cmpi .eq (a8 t) 0#32
abbrev c88 (t : ℕ) : BitVec 1 := Scalar.cmpi .eq (a8 t) 3#32
abbrev u89 (i : grid0.Coords) (t : ℕ) : BitVec 32 := Scalar.addi (wE t) (v4w i)
abbrev u94 (i : grid0.Coords) (t : ℕ) : BitVec 32 := Scalar.addi (Scalar.select (Scalar.cmpi .eq (Scalar.select 1#1 (Scalar.subi (wE t) 1#32) (wE t)) 4294967295#32) 3#32 (Scalar.select 1#1 (Scalar.subi (wE t) 1#32) (wE t))) (v4w i)
abbrev u99 (i : grid0.Coords) (t : ℕ) : BitVec 32 := Scalar.addi (Scalar.select (Scalar.cmpi .eq (Scalar.select 1#1 (Scalar.addi (wE t) 1#32) (wE t)) 4#32) 0#32 (Scalar.select 1#1 (Scalar.addi (wE t) 1#32) (wE t))) (v4w i)
abbrev c115 (i : grid0.Coords) (t : ℕ) : BitVec 1 := Scalar.cmpi .ne (u89 i t) (u99 i t)
abbrev c117 (t : ℕ) : BitVec 1 := Scalar.xori (Scalar.cmpi .sge (a8 t) 3#32) 1#1
abbrev w114 (i : grid0.Coords) (t : ℕ) : BitVec 32 := Scalar.select (Scalar.andi (Scalar.andi (c115 i t) (c117 t)) 1#1) (Scalar.addi (wA t) 1#32) (wA t)
abbrev w177 (i : grid0.Coords) (t : ℕ) : BitVec 32 := Scalar.select (Scalar.andi (Scalar.ori (c115 i t) (c88 t)) 1#1) (Scalar.addi (wB t) 1#32) (wB t)

variable (CU CI : Chan) {i : grid0.Coords} {d : Dev nD}
variable (AU : Data F CU d (cV i) (jV i)) (AI : Data F CI d (cV i) (jV i))
variable {t : Tr} {h2 : CU.ta.IsWhole} {h3 : CI.ta.IsWhole} {h4 : CU.ia.IsWhole} {h5 : CI.ia.IsWhole} {h6 : CU.oa.IsWhole} {h7 : CI.oa.IsWhole}
  {hl : CU.lb.IsWhole} {hl' : CI.lb.IsWhole} {hr : CU.rb.IsWhole} {hr' : CI.rb.IsWhole}
  {O : CellTallies nD τ sig (HIx 1)} {W : Waits sig (HIx 1)}

/-- The next block of indices: fetched while there is one. -/
def Nxt {C : Chan} (A : Data F C d (cV i) (jV i)) (t : ℕ) : sProp 𝕄 :=
  if t < 4 then ListFl A (sl t) (blk i t) else ListFree A (sl t)
/-- The last block's rows: being written out, after the first trip. -/
def Prv {C : Chan} (A : Data F C d (cV i) (jV i)) (t : ℕ) : sProp 𝕄 :=
  if 0 < t then RowFl A (sl (t + 1)) (blk i (t - 1)) else RowFree A (sl (t + 1))

/-- The other slot one trip on: the next block's row numbers are on their way, or, after the last trip, it is free. -/
theorem nxt_succ {C : Chan} (A : Data F C d (cV i) (jV i)) (t : ℕ) :
    Nxt A (t + 1) = (if t < 3 then ListFl A (sl (t + 1)) (blk i (t + 1)) else ListFree A (sl (t + 1)) : sProp 𝕄) := by
  unfold Nxt; congr 1; simp; omega

/-- The first part: the checks, and the fetch of the first channel's next block. -/
theorem part1 {Q : _ → sProp 𝕄} :
    (ListFree AU (sl (t.val + 1)) : sProp 𝕄) ⊢ iprop((Nxt AU (t.val + 1) -∗ Q ⟨chk5_ok t, chk4_ok t, chk3_ok t, chk2_ok t, chk1_ok i t,
        a8 t, c87 t, c88 t, u89 i t, u94 i t, u99 i t, w114 i t, c115 i t, c117 t⟩)
      -∗ wp frame (wpE (defs₀ (F := F)) 𝒱₀ (V d (cV i) (jV i)) none) Set.univ
      (k0_part1 (F := F) i CU.ta h2 CI.ta h3 CU.ia h4 CI.ia h5 CU.oa h6 CI.oa h7 CU.lb hl CU.si CI.lb hl' CI.si CU.rb hr CU.so CI.rb hr' CI.so
        CU.sg CI.sg (v4w i) 0#32 1#32 t (wA t.val) (wB t.val) (wA t.val) (wB t.val) (wB t.val) (wD t.val) (wB t.val) (wD t.val) (wE t.val)) Q) := by
  rw [k0_part1_eq_skeleton, nxt_succ]
  unfold k0_part1_skel
  iintro Hf Hk
  iapply (assume_bind (chk5_ok t))
  iapply (assume_bind (chk4_ok t))
  iapply (assume_bind (chk3_ok t))
  iapply (assume_bind (chk2_ok t))
  iapply (assume_bind (chk1_ok i t))
  iapply (cond_fetch AU (s := sl (t.val + 1)) (n := blk i (t.val + 1)) (cond1_iff i t)
    (fun _ _ ht => fetch_issue AU (off5_ok i t ht) (off4_ok t) (off6_ok t))) $$ Hf
  iintro Hn
  iapply then_pure
  iapply Hk $$ Hn

/-- The second part: the fetch of the second channel's next block, and the waits for this block's indices. -/
theorem part2 {Q : _ → sProp 𝕄} {hw} :
    iprop(ListFree AI (sl (t.val + 1)) ∗ ListFl AU (sl t.val) (blk i t.val) ∗ ListFl AI (sl t.val) (blk i t.val) ∗ Owes F (V d (cV i) (jV i)) O W ∗ Transfers.MayWaits (V d (cV i) (jV i)) (none : HIx 1) O)
      ⊢ iprop((iprop(Nxt AI (t.val + 1) ∗ ListReady AU (sl t.val) (blk i t.val) ∗ ListReady AI (sl t.val) (blk i t.val) ∗ Owes F (V d (cV i) (jV i)) O W) -∗ Q (w114 i t))
      -∗ wp frame (wpE (defs₀ (F := F)) 𝒱₀ (V d (cV i) (jV i)) none) Set.univ
      (k0_part2 (F := F) i CU.ta h2 CI.ta h3 CU.ia h4 CI.ia h5 CU.oa h6 CI.oa h7 CU.lb hl CU.si CI.lb hl' CI.si CU.rb hr CU.so CI.rb hr' CI.so
        CU.sg CI.sg t (wA t.val) (wB t.val) (wA t.val) (wB t.val) (wB t.val) (wD t.val) (wB t.val) (wD t.val) (wE t.val) hw
        (a8 t) (c87 t) (u89 i t) (u94 i t) (u99 i t) (c115 i t) (c117 t)) Q) := by
  rw [k0_part2_eq_skeleton, nxt_succ]
  unfold k0_part2_skel
  iintro ⟨Hf, HU, HI, HO, #Hmw⟩ Hk
  iapply (cond_fetch AI (s := sl (t.val + 1)) (n := blk i (t.val + 1)) (cond2_iff i t)
    (fun _ _ ht => fetch_issue AI (off8_ok i t ht) (off7_ok t) (off9_ok t))) $$ Hf
  iintro Hn
  iapply (cond_pos (cond3_ok i t))
  iapply then_bind
  iapply (fetch_wait AU (off12_ok t)) $$ [HU HO]
  · isplitl [HU]; · iexact HU
    isplitl [HO]; · iexact HO
    iexact Hmw
  iintro ⟨HU, HO⟩
  iapply (cond_pos (cond4_ok i t))
  iapply then_bind
  iapply (fetch_wait AI (off15_ok t)) $$ [HI HO]
  · isplitl [HI]; · iexact HI
    isplitl [HO]; · iexact HO
    iexact Hmw
  iintro ⟨HI, HO⟩
  iapply cond_same
  iapply cond_same
  iapply then_pure
  iapply Hk
  isplitl [Hn]; · iexact Hn
  isplitl [HU]; · iexact HU
  isplitl [HI]; · iexact HI
  iexact HO

/-- The third part: the first channel's gather, whole, and the start of the second's. -/
theorem part3 {Q : _ → sProp 𝕄} {hw5 hw4 hw3 hw2} :
    iprop((ListGot AU (sl t.val) (blk i t.val) ∗ RowBuf AU (sl t.val) ∗ TabSh AU) ∗ (ListGot AI (sl t.val) (blk i t.val) ∗ RowBuf AI (sl t.val) ∗ TabSh AI)
        ∗ Owes F (V d (cV i) (jV i)) O W ∗ Transfers.MayWaits (V d (cV i) (jV i)) (none : HIx 1) O)
      ⊢ iprop((iprop((RowGot AU (sl t.val) (blk i t.val) ∗ TabSh AU ∗ ListBuf AU (sl t.val)) ∗ GatherFl AI (sl t.val) (blk i t.val) ∗ Owes F (V d (cV i) (jV i)) O W) -∗ Q ⟨⟩)
      -∗ wp frame (wpE (defs₀ (F := F)) 𝒱₀ (V d (cV i) (jV i)) none) Set.univ
      (k0_part3 (F := F) i CU.ta h2 CI.ta h3 CU.ia h4 CI.ia h5 CU.oa h6 CI.oa h7 CU.lb hl CU.si CI.lb hl' CI.si CU.rb hr CU.so CI.rb hr' CI.so
        CU.sg CI.sg (wB t.val) (wB t.val) (wB t.val) (wB t.val) hw5 hw4 hw3 hw2) Q) := by
  rw [k0_part3_eq_skeleton]
  unfold k0_part3_skel
  iintro ⟨HU, HI, HO, #Hmw⟩ Hk
  iapply then_bind
  iapply (gather_issue AU (off17_ok t) (off16_ok t)) $$ HU
  iintro HU
  iapply then_bind
  iapply (gather_wait AU) $$ [HU HO]
  · isplitl [HU]; · iexact HU
    isplitl [HO]; · iexact HO
    iexact Hmw
  iintro ⟨HU, HO⟩
  iapply then_bind
  iapply (gather_issue AI (off19_ok t) (off18_ok t)) $$ HI
  iintro HI
  iapply then_pure
  iapply Hk
  isplitl [HU]; · iexact HU
  isplitl [HI]; · iexact HI
  iexact HO

/-- The fourth part: the second channel's gather ends, and both channels' rows start on their way out. -/
theorem part4 {Q : _ → sProp 𝕄} {hw5 hw4 hw1} :
    iprop((RowReady AU (sl t.val) (blk i t.val) ∗ Todo AU (blk i t.val)) ∗ (GatherFl AI (sl t.val) (blk i t.val) ∗ Out0 AI (sl t.val) ∗ Todo AI (blk i t.val))
        ∗ Owes F (V d (cV i) (jV i)) O W ∗ Transfers.MayWaits (V d (cV i) (jV i)) (none : HIx 1) O)
      ⊢ iprop((iprop(RowFl AU (sl t.val) (blk i t.val) ∗ (RowFl AI (sl t.val) (blk i t.val) ∗ TabSh AI ∗ ListBuf AI (sl t.val)) ∗ Owes F (V d (cV i) (jV i)) O W)
          -∗ Q ⟨w177 i t, w177 i t, Scalar.cmpi .ne (u89 i t) (u94 i t), 1#1⟩)
      -∗ wp frame (wpE (defs₀ (F := F)) 𝒱₀ (V d (cV i) (jV i)) none) Set.univ
      (k0_part4 (F := F) i CU.ta h2 CI.ta h3 CU.ia h4 CI.ia h5 CU.oa h6 CI.oa h7 CU.lb hl CU.si CI.lb hl' CI.si CU.rb hr CU.so CI.rb hr' CI.so
        CU.sg CI.sg t (wA t.val) (wB t.val) (wA t.val) (wB t.val) (wB t.val) (wD t.val) (wB t.val) (wD t.val) (wE t.val) hw5 hw4 hw1
        (c87 t) (c88 t) (u89 i t) (u94 i t) (u99 i t)) Q) := by
  rw [k0_part4_eq_skeleton]
  unfold k0_part4_skel
  iintro ⟨⟨HU, HTU⟩, ⟨HI, Hs, HTI⟩, HO, #Hmw⟩ Hk
  iapply then_bind
  iapply (gather_wait AI) $$ [HI HO]
  · isplitl [HI]; · iexact HI
    isplitl [HO]; · iexact HO
    iexact Hmw
  iintro ⟨⟨HI, HT⟩, HO⟩
  iapply cond_same
  iapply cond_same
  iapply (cond_pos (cond9_ok i t))
  iapply then_bind
  iapply (out_issue AU (off21_ok i t) (off20_ok t) (off22_ok t)) $$ [HU HTU]
  · isplitl [HU]; · iexact HU
    iexact HTU
  iintro HU
  iapply (cond_pos (cond10_ok i t))
  iapply then_bind
  iapply (out_issue AI (off24_ok i t) (off23_ok t) (off25_ok t)) $$ [HI HTI Hs]
  · unfold RowReady
    isplitl [HI Hs]
    · isplitl [HI]; · iexact HI
      iexact Hs
    iexact HTI
  iintro HI
  iapply cond_same
  iapply then_pure
  iapply Hk
  isplitl [HU]; · iexact HU
  isplitr [HO]
  · isplitl [HI]; · iexact HI
    iexact HT
  iexact HO

/-! ## The trip -/

/-- The blocks whose write-out has been waited for. -/
def Dn {C : Chan} (A : Data F C d (cV i) (jV i)) (t : ℕ) : sProp 𝕄 := BI.bigSep (Finset.range (t - 1)) fun n => Done A (blk i n)
/-- The blocks whose write-out has not begun. -/
def Td {C : Chan} (A : Data F C d (cV i) (jV i)) (t : ℕ) : sProp 𝕄 := BI.bigSep (Finset.Ico t 4) fun n => Todo A (blk i n)

/-- Splitting one off a separating conjunction. -/
theorem bigSep_cons {I : Type} [DecidableEq I] {s : Finset I} {x : I} (h : x ∉ s) (Φ : I → sProp 𝕄) :
    BI.bigSep (insert x s) Φ = iprop(Φ x ∗ BI.bigSep s Φ) := BI.bigSep_insert h

/-- The blocks still to do lose one in a trip; those done gain it. -/
theorem td_next {C : Chan} (A : Data F C d (cV i) (jV i)) {t : ℕ} (ht : t < 4) : (Td A t : sProp 𝕄) ⊢ iprop(Todo A (blk i t) ∗ Td A (t + 1)) := by
  unfold Td
  have h : Finset.Ico t 4 = insert t (Finset.Ico (t + 1) 4) := by ext x; simp; omega
  rw [h, bigSep_cons (by simp)]

/-- The blocks still to do lose one in a trip; those done gain it. -/
theorem dn_next {C : Chan} (A : Data F C d (cV i) (jV i)) (t : ℕ) :
    iprop(Dn A t ∗ (if 0 < t then Done A (blk i (t - 1)) else emp)) ⊢ (Dn A (t + 1) : sProp 𝕄) := by
  unfold Dn
  rcases t with _ | t
  · simp only [Nat.zero_sub, Nat.zero_add, Nat.sub_self, lt_irrefl, if_false, Finset.range_zero, BI.bigSep_empty]
    iintro ⟨-, -⟩; iempintro
  · simp only [Nat.add_sub_cancel, Nat.succ_pos, if_true]
    rw [Finset.range_add_one, bigSep_cons (by simp)]
    iintro ⟨H, H'⟩
    isplitl [H']; · iexact H'
    iexact H

/-- What one channel's side of the loop holds before trip `t`. -/
def ChInv {C : Chan} (A : Data F C d (cV i) (jV i)) (t : ℕ) : sProp 𝕄 :=
  iprop(Nxt A t ∗ ListFree A (sl (t + 1)) ∗ RowFree A (sl t) ∗ Prv A t ∗ TabSh A ∗ Dn A t ∗ Td A t)

/-- The words after a trip, for the fetches, the lists, the waited write-outs and the block. -/
abbrev wNext (i : grid0.Coords) (t : ℕ) : BitVec 32 := Scalar.select (Scalar.ori (Scalar.cmpi .ne (u89 i t) (u99 i t)) (c88 t)) (Scalar.addi (wB t) 1#32) (wB t)
abbrev wOut (i : grid0.Coords) (t : ℕ) : BitVec 32 := Scalar.select (Scalar.andi (Scalar.andi (Scalar.cmpi .ne (u89 i t) (u94 i t)) (Scalar.xori (c87 t) 1#1)) 1#1) (Scalar.addi (wD t) 1#32) (wD t)
abbrev wBlk (t : ℕ) : BitVec 32 := Scalar.select (Scalar.cmpi .eq (Scalar.select 1#1 (Scalar.addi (wE t) 1#32) (wE t)) 4#32) 0#32 (Scalar.select 1#1 (Scalar.addi (wE t) 1#32) (wE t))

/-- The word that the trip computes for the next one is the word of the next one. -/
theorem w114_eq : ∀ (i : grid0.Coords) (t : Tr), w114 i t = wA (t.val + 1) := by decide +kernel
/-- The word that the trip computes for the next one is the word of the next one. -/
theorem wNext_eq : ∀ (i : grid0.Coords) (t : Tr), wNext i t = wB (t.val + 1) := by decide +kernel
/-- The word that the trip computes for the next one is the word of the next one. -/
theorem w177_eq : ∀ (i : grid0.Coords) (t : Tr), w177 i t = wB (t.val + 1) := by decide +kernel
/-- The word that the trip computes for the next one is the word of the next one. -/
theorem wOut_eq : ∀ (i : grid0.Coords) (t : Tr), wOut i t = wD (t.val + 1) := by decide +kernel
/-- The word that the trip computes for the next one is the word of the next one. -/
theorem wBlk_eq : ∀ (t : Tr), wBlk t = wE (t.val + 1) := by decide +kernel

/-- The words a trip returns are the next trip's. -/
theorem words_succ (i : grid0.Coords) (t : Tr) :
    (w114 i t, wNext i t, w114 i t, wNext i t, w177 i t, wOut i t, w177 i t, wOut i t, wBlk t) = words (t.val + 1) := by
  rw [w114_eq, wNext_eq, w177_eq, wOut_eq, wBlk_eq]

/-- One trip: from the state before it to the state before the next. -/
theorem trip {Q : _ → sProp 𝕄} {v9 : BitVec 32} :
    iprop(ChInv AU t.val ∗ ChInv AI t.val ∗ Owes F (V d (cV i) (jV i)) O W ∗ Transfers.MayWaits (V d (cV i) (jV i)) (none : HIx 1) O)
      ⊢ iprop((iprop(ChInv AU (t.val + 1) ∗ ChInv AI (t.val + 1) ∗ Owes F (V d (cV i) (jV i)) O W) -∗ Q (words (t.val + 1)))
      -∗ wp frame (wpE (defs₀ (F := F)) 𝒱₀ (V d (cV i) (jV i)) none) Set.univ
      (k0_t1_body (F := F) i CU.ta h2 CI.ta h3 CU.ia h4 CI.ia h5 CU.oa h6 CI.oa h7 CU.lb hl CU.si CI.lb hl' CI.si CU.rb hr CU.so CI.rb hr' CI.so
        CU.sg CI.sg (v4w i) v9 t (words t.val)) Q) := by
  have ht : t.val < 4 := lt_of_lt_of_eq t.isLt trips_eq
  have hn : ∀ {C : Chan} (A : Data F C d (cV i) (jV i)), (Nxt A t.val : sProp 𝕄) = ListFl A (sl t.val) (blk i t.val) := fun A => if_pos ht
  have hp : ∀ {C : Chan} (A : Data F C d (cV i) (jV i)), (Prv A (t.val + 1) : sProp 𝕄) = RowFl A (sl t.val) (blk i t.val) := fun A => by
    unfold Prv; rw [if_pos (Nat.succ_pos _), Nat.add_sub_cancel, sl_add_two]
  unfold k0_t1_body ChInv
  rw [hn AU, hn AI, hp AU, hp AI, sl_add_two]
  iintro ⟨⟨HnU, HlU, HrU, HpU, HtU, HdU, HtdU⟩, ⟨HnI, HlI, HrI, HpI, HtI, HdI, HtdI⟩, HO, #Hmw⟩ Hk
  unfold RowFree
  icases HrU with ⟨HrU, HoU⟩
  icases HrI with ⟨HrI, HoI⟩
  iapply then_bind
  iapply (part1 CU CI AU) $$ HlU
  iintro HnU'
  iapply then_bind
  iapply (part2 CU CI AU AI) $$ [HlI HnU HnI HO]
  · isplitl [HlI]; · iexact HlI
    isplitl [HnU]; · iexact HnU
    isplitl [HnI]; · iexact HnI
    isplitl [HO]; · iexact HO
    iexact Hmw
  unfold ListReady
  iintro ⟨HnI', ⟨HgU, HfU⟩, ⟨HgI, HfI⟩, HO⟩
  iapply then_bind
  iapply (part3 CU CI AU AI) $$ [HgU HrU HtU HgI HrI HtI HO]
  · isplitl [HgU HrU HtU]
    · isplitl [HgU]; · iexact HgU
      isplitl [HrU]; · iexact HrU
      iexact HtU
    isplitl [HgI HrI HtI]
    · isplitl [HgI]; · iexact HgI
      isplitl [HrI]; · iexact HrI
      iexact HtI
    isplitl [HO]; · iexact HO
    iexact Hmw
  iintro ⟨⟨HrU, HtU, HbU⟩, HgI, HO⟩
  ihave HtdU' := (td_next AU ht) $$ HtdU
  icases HtdU' with ⟨HxU, HtdU⟩
  ihave HtdI' := (td_next AI ht) $$ HtdI
  icases HtdI' with ⟨HxI, HtdI⟩
  iapply then_bind
  iapply (part4 CU CI AU AI) $$ [HrU HoU HxU HgI HoI HxI HO]
  · unfold RowReady
    isplitl [HrU HoU HxU]
    · isplitl [HrU HoU]
      · isplitl [HrU]; · iexact HrU
        iexact HoU
      iexact HxU
    isplitl [HgI HoI HxI]
    · isplitl [HgI]; · iexact HgI
      isplitl [HoI]; · iexact HoI
      iexact HxI
    isplitl [HO]; · iexact HO
    iexact Hmw
  iintro ⟨HrU, ⟨HrI, HtI, HbI⟩, HO⟩
  iapply cond_same
  unfold Prv
  iapply (cond_out AU (s := sl (t.val + 1)) (n := blk i (t.val - 1)) (O := O) (W := W) (cond13_iff i t) (fun _ _ h => out_wait AU (off28_ok t h))) $$ [HpU HO]
  · isplitl [HpU]; · iexact HpU
    isplitl [HO]; · iexact HO
    iexact Hmw
  iintro ⟨⟨HpU, HeU⟩, HO⟩
  iapply (cond_out AI (s := sl (t.val + 1)) (n := blk i (t.val - 1)) (O := O) (W := W) (cond14_iff i t) (fun _ _ h => out_wait AI (off31_ok t h))) $$ [HpI HO]
  · isplitl [HpI]; · iexact HpI
    isplitl [HO]; · iexact HO
    iexact Hmw
  iintro ⟨⟨HpI, HeI⟩, HO⟩
  iapply then_pure
  rw [← words_succ i t]
  iapply Hk
  ihave HdU := (dn_next AU t.val) $$ [HdU HeU]
  · isplitl [HdU]; · iexact HdU
    iexact HeU
  ihave HdI := (dn_next AI t.val) $$ [HdI HeI]
  · isplitl [HdI]; · iexact HdI
    iexact HeI
  isplitl [HnU' HbU HfU HpU HrU HtU HdU HtdU]
  · isplitl [HnU']; · iexact HnU'
    isplitl [HbU HfU]
    · unfold ListFree
      isplitl [HbU]; · iexact HbU
      iexact HfU
    unfold RowFree
    isplitl [HpU]; · iexact HpU
    isplitl [HrU]; · iexact HrU
    isplitl [HtU]; · iexact HtU
    isplitl [HdU]; · iexact HdU
    iexact HtdU
  isplitr [HO]
  · isplitl [HnI']; · iexact HnI'
    isplitl [HbI HfI]
    · unfold ListFree
      isplitl [HbI]; · iexact HbI
      iexact HfI
    unfold RowFree
    isplitl [HpI]; · iexact HpI
    isplitl [HrI]; · iexact HrI
    isplitl [HtI]; · iexact HtI
    isplitl [HdI]; · iexact HdI
    iexact HtdI
  iexact HO

end Cert.Proof.Tw
-- ==== Proof.Loop.lean ====
/-
  One tile's run of the gather kernel: the first fetches, the loop of four trips, the last waits.
-/
module

public import proofs.«01_k».proof.Proof.Trip

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (CU CI : Chan) {i : grid0.Coords} {d : Dev nD}
variable (AU : Data F CU d (cV i) (jV i)) (AI : Data F CI d (cV i) (jV i))
variable {h2 : CU.ta.IsWhole} {h3 : CI.ta.IsWhole} {h4 : CU.ia.IsWhole} {h5 : CI.ia.IsWhole} {h6 : CU.oa.IsWhole} {h7 : CI.oa.IsWhole}
  {hl : CU.lb.IsWhole} {hl' : CI.lb.IsWhole} {hr : CU.rb.IsWhole} {hr' : CI.rb.IsWhole}
  {O : CellTallies nD τ sig (HIx 1)} {W : Waits sig (HIx 1)}

/-- What one channel's side of the kernel is given: its slots and their semaphores, its shares, its four blocks. -/
def ChPre {C : Chan} (A : Data F C d (cV i) (jV i)) : sProp 𝕄 :=
  iprop(ListFree A (sl 0) ∗ ListFree A (sl 1) ∗ RowFree A (sl 0) ∗ RowFree A (sl 1) ∗ TabSh A ∗ Td A 0)
/-- What it gives back: the same, the blocks holding their rows. -/
def ChPost {C : Chan} (A : Data F C d (cV i) (jV i)) : sProp 𝕄 :=
  iprop(ListFree A (sl 0) ∗ ListFree A (sl 1) ∗ RowFree A (sl 0) ∗ RowFree A (sl 1) ∗ TabSh A ∗ BI.bigSep (Finset.range 4) fun n => Done A (blk i n))

/-- The first fetch started, the loop may begin. -/
theorem inv_zero {C : Chan} (A : Data F C d (cV i) (jV i)) :
    iprop(ListFl A (sl 0) (blk i 0) ∗ ListFree A (sl 1) ∗ RowFree A (sl 0) ∗ RowFree A (sl 1) ∗ TabSh A ∗ Td A 0) ⊢ (ChInv A 0 : sProp 𝕄) := by
  unfold ChInv Nxt Prv Dn
  simp only [Nat.zero_sub, Nat.zero_add, lt_irrefl, if_false, Finset.range_zero, BI.bigSep_empty, show (0 : ℕ) < 4 from by decide, if_true]
  iintro ⟨H1, H2, H3, H4, H5, H6⟩
  isplitl [H1]; · iexact H1
  isplitl [H2]; · iexact H2
  isplitl [H3]; · iexact H3
  isplitl [H4]; · iexact H4
  isplitl [H5]; · iexact H5
  isplitr; · iempintro
  iexact H6

/-- After the last trip one write-out of each channel is in flight. -/
theorem inv_four {C : Chan} (A : Data F C d (cV i) (jV i)) :
    (ChInv A 4 : sProp 𝕄) ⊢ iprop(RowFl A (sl 3) (blk i 3) ∗ (ListFree A (sl 0) ∗ ListFree A (sl 1) ∗ RowFree A (sl 0) ∗ TabSh A ∗ Dn A 4)) := by
  unfold ChInv Nxt Prv
  simp only [lt_irrefl, if_false, show (0 : ℕ) < 4 from by decide, if_true]
  rw [show sl 4 = sl 0 from rfl, show sl (4 + 1) = sl 1 from rfl, show sl 1 = sl 3 from rfl]
  iintro ⟨H1, H2, H3, H4, H5, H6, -⟩
  isplitl [H4]; · iexact H4
  isplitl [H1]; · iexact H1
  isplitl [H2]; · iexact H2
  isplitl [H3]; · iexact H3
  isplitl [H5]; · iexact H5
  iexact H6

/-- The last write-out waited for, the channel is done. -/
theorem post_of {C : Chan} (A : Data F C d (cV i) (jV i)) :
    iprop((RowFree A (sl 3) ∗ Done A (blk i 3)) ∗ (ListFree A (sl 0) ∗ ListFree A (sl 1) ∗ RowFree A (sl 0) ∗ TabSh A ∗ Dn A 4)) ⊢ (ChPost A : sProp 𝕄) := by
  unfold ChPost Dn
  rw [show (4 : ℕ) - 1 = 3 from rfl, show Finset.range 4 = insert 3 (Finset.range 3) from by decide, bigSep_cons (by simp), show sl 3 = sl 1 from rfl]
  iintro ⟨⟨H1, H2⟩, H3, H4, H5, H6, H7⟩
  isplitl [H3]; · iexact H3
  isplitl [H4]; · iexact H4
  isplitl [H5]; · iexact H5
  isplitl [H1]; · iexact H1
  isplitl [H6]; · iexact H6
  isplitl [H2]; · iexact H2
  iexact H7

/-- The offset used before the loop, of the first block's slot or of the block itself. -/
theorem off1_ok : k0_off1 = o3 (sl 0) := by decide +kernel
/-- The offset used before the loop, of the first block's slot or of the block itself. -/
theorem off3_ok : k0_off3 = o1 (sl 0) := by decide +kernel

/-- The tile's run: from its shares and blocks to the blocks holding their rows. -/
theorem gather_run {Q : PUnit → sProp 𝕄} :
    iprop(ChPre AU ∗ ChPre AI ∗ Owes F (V d (cV i) (jV i)) O W ∗ Transfers.MayWaits (V d (cV i) (jV i)) (none : HIx 1) O)
      ⊢ iprop((iprop(ChPost AU ∗ ChPost AI ∗ Owes F (V d (cV i) (jV i)) O W) -∗ Q ⟨⟩)
      -∗ wp frame (wpE (defs₀ (F := F)) 𝒱₀ (V d (cV i) (jV i)) none) Set.univ
      (cc0_gather_kernel (F := F) i CU.ta h2 CI.ta h3 CU.ia h4 CI.ia h5 CU.oa h6 CI.oa h7 CU.lb hl CU.si CI.lb hl' CI.si CU.rb hr CU.so CI.rb hr' CI.so
        CU.sg CI.sg) Q) := by
  rw [cc0_gather_kernel_eq_skeleton]
  unfold cc0_gather_kernel_skel ChPre
  iintro ⟨⟨Hl0, Hl1, Hr0, Hr1, Ht, Hd⟩, ⟨Il0, Il1, Ir0, Ir1, It, Id⟩, HO, #Hmw⟩ Hk
  iapply then_bind
  rw [k0_part5_eq_skeleton]
  unfold k0_part5_skel
  iapply then_bind
  iapply (fetch_issue AU (s := sl 0) (n := blk i 0) (off2_ok i) off1_ok off3_ok) $$ Hl0
  iintro Hl0
  iapply then_pure
  iapply then_bind
  rw [k0_part6_eq_skeleton]
  unfold k0_part6_skel
  iapply then_bind
  iapply (fetch_issue AI (s := sl 0) (n := blk i 0) (off2_ok i) off1_ok off3_ok) $$ Il0
  iintro Il0
  iapply (Scf.wp_for_bind _ _ _ _ _ _ _ _ _ (fun t acc => iprop(⌜acc = words t⌝ ∗ (ChInv AU t ∗ ChInv AI t ∗ Owes F (V d (cV i) (jV i)) O W) ∗ Transfers.MayWaits (V d (cV i) (jV i)) (none : HIx 1) O)) ?_) $$ [Hl0 Hl1 Hr0 Hr1 Ht Hd Il0 Il1 Ir0 Ir1 It Id HO]
  · intro t acc
    iintro ⟨%he, ⟨HU, HI, HO⟩, #Hmw⟩
    subst he
    iapply (trip CU CI AU AI (t := t)) $$ [HU HI HO]
    · isplitl [HU]; · iexact HU
      isplitl [HI]; · iexact HI
      isplitl [HO]; · iexact HO
      iexact Hmw
    iintro H
    isplitr; · ipureintro; rfl
    isplitl [H]; · iexact H
    iexact Hmw
  · isplitr; · ipureintro; rfl
    isplitl
    · isplitl [Hl0 Hl1 Hr0 Hr1 Ht Hd]
      · iapply (inv_zero AU)
        isplitl [Hl0]; · iexact Hl0
        isplitl [Hl1]; · iexact Hl1
        isplitl [Hr0]; · iexact Hr0
        isplitl [Hr1]; · iexact Hr1
        isplitl [Ht]; · iexact Ht
        iexact Hd
      isplitr [HO]
      · iapply (inv_zero AI)
        isplitl [Il0]; · iexact Il0
        isplitl [Il1]; · iexact Il1
        isplitl [Ir0]; · iexact Ir0
        isplitl [Ir1]; · iexact Ir1
        isplitl [It]; · iexact It
        iexact Id
      iexact HO
    iexact Hmw
  iintro %acc ⟨%he, ⟨HU, HI, HO⟩, -⟩
  rw [show Scf.trips _ _ _ = 4 from trips_eq] at he
  subst he
  rw [show Scf.trips _ _ _ = 4 from trips_eq]
  ihave HU := (inv_four AU) $$ HU
  icases HU with ⟨HfU, HU⟩
  ihave HI := (inv_four AI) $$ HI
  icases HI with ⟨HfI, HI⟩
  iapply (assume_bind chk8_ok)
  iapply (assume_bind (chk7_ok i))
  iapply (assume_bind chk6_ok)
  iapply then_pure
  iapply then_bind
  iapply (out_wait AU off34_ok) $$ [HfU HO]
  · isplitl [HfU]; · iexact HfU
    isplitl [HO]; · iexact HO
    iexact Hmw
  iintro ⟨HfU, HO⟩
  iapply then_bind
  iapply (out_wait AI off38_ok) $$ [HfI HO]
  · isplitl [HfI]; · iexact HfI
    isplitl [HO]; · iexact HO
    iexact Hmw
  iintro ⟨HfI, HO⟩
  iapply then_pure
  iapply Hk
  isplitl [HfU HU]
  · iapply (post_of AU)
    isplitl [HfU]; · iexact HfU
    iexact HU
  isplitl [HfI HI]
  · iapply (post_of AI)
    isplitl [HfI]; · iexact HfI
    iexact HI
  iexact HO

end Cert.Proof.Tw
-- ==== Proof.Parts.lean ====
/-
  How the arrays and the buffers part: the scratch buffers into their two slots, the results into 128 blocks of rows,
  the blocks among the tiles, the read arrays into shares.
-/
module

public import proofs.«01_k».proof.Proof.Loop

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A points-to and its parts -/

section Parts
variable {ℓ : Loc nD τ sig} {T : Type} [Fintype T] [DecidableEq T] (Kp : T → Finset (Idx ℓ))
  (hd : ∀ t t', t ≠ t' → Disjoint (Kp t) (Kp t')) (hc : Finset.univ.biUnion Kp = Finset.univ)
include hd hc

omit [FloatOps F] in
/-- A buffer is its parts. -/
theorem parts_eq (f : Buf (Elt F) ℓ) : (ℓ ↦{fullShare} f : sProp 𝕄) = BI.bigSep Finset.univ fun t => ℓ ↦[Kp t]{fullShare} f := by
  rw [← pointsTo_biUnion Finset.univ (ℓ := ℓ) Kp (fun t _ t' _ h => hd t t' h), hc]

omit [FloatOps F] in
/-- A buffer of some contents gives its parts, of some contents each. -/
theorem parts_split : (iprop(∃ f, ℓ ↦{fullShare} f) : sProp 𝕄) ⊢ BI.bigSep Finset.univ fun t => iprop(∃ f : Buf (Elt F) ℓ, ℓ ↦[Kp t]{fullShare} f) := by
  have h1 : ∀ f t, (ℓ ↦[Kp t]{fullShare} f : sProp 𝕄) ⊢ iprop(∃ f : Buf (Elt F) ℓ, ℓ ↦[Kp t]{fullShare} f) := fun f t => by
    iintro H; iexists f; iexact H
  have h2 : ∀ f, (ℓ ↦{fullShare} f : sProp 𝕄) ⊢ BI.bigSep Finset.univ fun t => iprop(∃ f : Buf (Elt F) ℓ, ℓ ↦[Kp t]{fullShare} f) := fun f => by
    rw [parts_eq Kp hd hc f]
    exact bigSep_mono fun t _ => h1 f t
  iintro ⟨%f, H⟩
  iapply (h2 f) $$ H

/-- The parts, of some contents each, give the buffer. -/
theorem parts_join [Nonempty T] : (BI.bigSep Finset.univ fun t => iprop(∃ f : Buf (Elt F) ℓ, ℓ ↦[Kp t]{fullShare} f)) ⊢ (iprop(∃ f, ℓ ↦{fullShare} f) : sProp 𝕄) := by
  refine (bigSep_exists_pi Finset.univ (fun t (f : Buf (Elt F) ℓ) => (ℓ ↦[Kp t]{fullShare} f : sProp 𝕄))).trans ?_
  iintro ⟨%fs, H⟩
  have t₀ : T := Classical.arbitrary T
  ihave H' := (pointsTo_biUnion_join (ℓ := ℓ) (q := fullShare) (Val := Elt F) Finset.univ Kp fs (fs t₀) (fun t _ t' _ h => hd t t' h)) $$ H
  icases H' with ⟨%g, -, Hg⟩
  rw [hc]
  iexists g; iexact Hg
end Parts

/-! ## The slots and the blocks -/

section Sets
variable {C : Chan}

/-- A slot of the buffer is one of its two halves. -/
theorem lS_set (s : Fin 2) : (C.lS s).view.set = (Rect.part (s := S2x1x128) (a₀ := 0) (n := 2) ⟨1, rfl⟩ s).set.map C.lb.view.emb := by
  rw [show (C.lS s).view.set = (C.lb.view.slice (Rect.unit (s := S2x1x128) (o3 s) S1x1x128.size (o3_list s))).set from View.set_reshape _ _, View.set_slice]
  have hR : Rect.unit (s := S2x1x128) (o3 s) S1x1x128.size (o3_list s) = Rect.part (s := S2x1x128) (a₀ := 0) (n := 2) ⟨1, rfl⟩ s := by
    unfold Rect.part Rect.block
    congr 1 <;> funext a <;> fin_cases a <;> simp [Shape.partIx, Shape.partSize]
  rw [hR]

/-- A slot of the buffer is one of its two halves. -/
theorem rS_set (s : Fin 2) : (C.rS s).view.set = (Rect.part (s := S2x128x128) (a₀ := 0) (n := 2) ⟨1, rfl⟩ s).set.map C.rb.view.emb := by
  rw [show (C.rS s).view.set = (C.rb.view.slice (Rect.unit (s := S2x128x128) (o3 s) S1x128x128.size (o3_rows s))).set from View.set_reshape _ _, View.set_slice]
  have hR : Rect.unit (s := S2x128x128) (o3 s) S1x128x128.size (o3_rows s) = Rect.part (s := S2x128x128) (a₀ := 0) (n := 2) ⟨1, rfl⟩ s := by
    unfold Rect.part Rect.block
    congr 1 <;> funext a <;> fin_cases a <;> simp [Shape.partIx, Shape.partSize]
  rw [hR]

/-- A block of the output is one of its 128 parts. -/
theorem oB_set (n : Fin 128) : (C.oB n).view.set = (Rect.part (s := S16384x128) (a₀ := 0) (n := 128) ⟨128, rfl⟩ n).set.map C.oa.view.emb := by
  rw [show (C.oB n).view.set = (C.oa.view.slice (Rect.unit (s := S16384x128) (oO n) S128x128.size (oO_inb n))).set from rfl, View.set_slice]
  have hR : Rect.unit (s := S16384x128) (oO n) S128x128.size (oO_inb n) = Rect.part (s := S16384x128) (a₀ := 0) (n := 128) ⟨128, rfl⟩ n := by
    unfold Rect.part Rect.block
    congr 1 <;> funext a <;> fin_cases a <;> simp [Shape.partIx, Shape.partSize]
    omega
  rw [hR]

/-- The images of an array's parts are disjoint and cover a view that is whole. -/
theorem parts_map {s : Shape} {β : Type} [DecidableEq β] [Fintype β] (e : s.Idx ↪ β) (he : (Finset.univ : Finset s.Idx).map e = Finset.univ)
    {a₀ : Fin s.rank} {n : ℕ} (hn : n ∣ s.size a₀) :
    (∀ t t', t ≠ t' → Disjoint ((Rect.part hn t).set.map e) ((Rect.part hn t').set.map e))
      ∧ Finset.univ.biUnion (fun t => (Rect.part hn t).set.map e) = Finset.univ := by
  constructor
  · intro t t' h
    exact (Finset.disjoint_map e).mpr (Rect.part_disjoint hn h)
  · rw [← he, ← Rect.biUnion_part hn]
    ext x; simp only [Finset.mem_biUnion, Finset.mem_map, Finset.mem_univ, true_and]
    exact ⟨fun ⟨t, y, hy, h⟩ => ⟨y, ⟨t, hy⟩, h⟩, fun ⟨y, ⟨t, hy⟩, h⟩ => ⟨t, y, hy, h⟩⟩
end Sets

/-! ## The tiles' numbers -/

/-- A point of the call's grid. -/
def coordsV (c : Fin (grid0.bound 0)) (s : Fin (grid0.bound 1)) : grid0.Coords :=
  fun | 0 => c | 1 => s | ⟨_ + 2, h⟩ => absurd h (Nat.not_lt.2 (Nat.le_add_left _ _))

/-- The tile's number among the 32. -/
def tn (i : grid0.Coords) : Fin 32 := ⟨((i 1).val + 16 * (i 0).val) % 32, Nat.mod_lt _ (by decide)⟩

/-- The tiles are numbered one to one. -/
theorem tn_bij : Function.Bijective (fun p : Fin (grid0.bound 0) × Fin (grid0.bound 1) => tn (coordsV p.1 p.2)) := by decide +kernel
/-- Every block is handled by exactly one tile in exactly one trip. -/
theorem blk_bij : Function.Bijective (fun p : (Fin (grid0.bound 0) × Fin (grid0.bound 1)) × Fin 4 => blk (coordsV p.1.1 p.1.2) p.2.val) := by decide +kernel

omit [FloatOps F] in
/-- Over the 32 numbers is over the tiles. -/
theorem bigSep_tiles (Φ : Fin 32 → sProp 𝕄) :
    BI.bigSep Finset.univ Φ = BI.bigSep Finset.univ fun c : Fin (grid0.bound 0) => BI.bigSep Finset.univ fun s : Fin (grid0.bound 1) => Φ (tn (coordsV c s)) := by
  rw [bigSep_univ_equiv (Equiv.ofBijective _ tn_bij) Φ, ← Finset.univ_product_univ, SparseCore.bigSep_product]
  rfl

omit [FloatOps F] in
/-- Over the 128 blocks is over the tiles and each tile's four. -/
theorem bigSep_blocks (Φ : Fin 128 → sProp 𝕄) :
    BI.bigSep Finset.univ Φ = BI.bigSep Finset.univ fun c : Fin (grid0.bound 0) => BI.bigSep Finset.univ fun s : Fin (grid0.bound 1) =>
      BI.bigSep (Finset.range 4) fun n => Φ (blk (coordsV c s) n) := by
  rw [bigSep_univ_equiv (Equiv.ofBijective _ blk_bij) Φ, ← Finset.univ_product_univ, SparseCore.bigSep_product, ← Finset.univ_product_univ, SparseCore.bigSep_product]
  refine bigSep_congr fun c _ => bigSep_congr fun s _ => ?_
  rw [show Finset.range 4 = (Finset.univ : Finset (Fin 4)).image (fun n => n.val) from by decide, SparseCore.bigSep_image_of_injOn (fun a _ b _ h => Fin.ext h)]
  rfl

end Cert.Proof.Tw
-- ==== Proof.Tile.lean ====
/-
  One tile's task: what it is handed for each channel, its scratch opened into slots, the run, and the same closed again.
-/
module

public import proofs.«01_k».proof.Proof.Parts

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the call computes -/

/-- The call's operands on one device: for each channel the indices, each a row of its table, and the table. -/
structure Ins (F : FTy → Type) where
  iu : S1x16384.Idx → Elt F .i32
  ii : S1x16384.Idx → Elt F .i32
  tu : S500000x128.Idx → Elt F .f32
  ti : S500000x128.Idx → Elt F .f32
  hu : ∀ j, (iu j : BitVec 32).toNat < 500000
  hi : ∀ j, (ii j : BitVec 32).toNat < 500000

/-- The place of index number `k`. -/
def ixAt (k : Fin 16384) : S1x16384.Idx := fun
  | ⟨0, _⟩ => (⟨0, Nat.one_pos⟩ : Fin 1)
  | ⟨1, _⟩ => k
/-- Column `c` of row `r` of a table. -/
def tbAt (r : Fin 500000) (c : Fin 128) : S500000x128.Idx := fun
  | ⟨0, _⟩ => r
  | ⟨1, _⟩ => c
/-- The rows of `t` that `f` names, in order. -/
def gath (f : S1x16384.Idx → Elt F .i32) (t : S500000x128.Idx → Elt F .f32) : S16384x128.Idx → Elt F .f32 := fun x =>
  t (tbAt ⟨(f (ixAt (x 0)) : BitVec 32).toNat % 500000, Nat.mod_lt _ (by decide)⟩ (x 1))

/-- Element `k` of block `n` of the row numbers, in the whole array. -/
theorem emb_oI (n : Fin 128) (k : Fin 128) : (Rect.unit (s := S1x16384) (oI n) S1x128.size (oI_inb n)).emb (ix2 k) = ixAt ⟨128 * n.val + k.val, by omega⟩ := by
  funext a
  refine Fin.ext ?_
  rw [Rect.emb_apply]
  fin_cases a <;> simp [ix2, ixAt]

/-- A gathered row is the row of the table that its number names. -/
theorem gath_spec (f : S1x16384.Idx → Elt F .i32) (t : S500000x128.Idx → Elt F .f32) (hf : ∀ j, (f j : BitVec 32).toNat < 500000) (n : Fin 128) (x : S128x128.Idx) (y : S500000x128.Idx)
    (h0 : (y 0).val = (f ((Rect.unit (s := S1x16384) (oI n) S1x128.size (oI_inb n)).emb (ix2 (x 0))) : BitVec 32).toNat) (h1 : y 1 = x 1) :
    gath f t ((Rect.unit (s := S16384x128) (oO n) S128x128.size (oO_inb n)).emb x) = t y := by
  have hx : (x 0).val < 128 := (x 0).isLt
  have e0 : (Rect.unit (s := S16384x128) (oO n) S128x128.size (oO_inb n)).emb x 0 = (⟨128 * n.val + (x 0).val, by omega⟩ : Fin 16384) := by
    refine Fin.ext ?_; rw [Rect.emb_apply]; simp
  have e1 : (Rect.unit (s := S16384x128) (oO n) S128x128.size (oO_inb n)).emb x 1 = x 1 := by
    refine Fin.ext ?_; rw [Rect.emb_apply]; simp
  unfold gath
  congr 1
  funext a
  replace h0 := h0.trans (congrArg (fun z => (f z : BitVec 32).toNat) (emb_oI n (x 0)))
  have hl := hf (ixAt ⟨128 * n.val + (x 0).val, by omega⟩)
  match a with
  | ⟨0, _⟩ =>
    refine Fin.ext ?_
    show (f (ixAt ((Rect.unit (s := S16384x128) (oO n) S128x128.size (oO_inb n)).emb x 0)) : BitVec 32).toNat % 500000 = (y 0).val
    rw [e0, h0, Nat.mod_eq_of_lt hl]
  | ⟨1, _⟩ => exact e1.trans h1.symm

/-! ## The two channels -/

/-- The user channel and the item channel of the call. -/
abbrev CU : Chan := ⟨Memref.whole main_v14_scv, Memref.whole main_v0_scv, Memref.whole main_v16_0_scv, Memref.whole cc0_scoped0, Memref.whole cc0_scoped4,
  cc0_scoped1, cc0_scoped5, cc0_scoped8⟩
abbrev CI : Chan := ⟨Memref.whole main_v15_scv, Memref.whole main_v1_scv, Memref.whole main_v16_1_scv, Memref.whole cc0_scoped2, Memref.whole cc0_scoped6,
  cc0_scoped3, cc0_scoped7, cc0_scoped9⟩

/-- A tile's share of an array read by all 32. -/
abbrev tq (i : grid0.Coords) : PosShare TreeShare := pieceOf fullShare 32 (by decide) (tn i)

variable (X : Ins F) (d : Dev nD) (i : grid0.Coords)

/-- A tile's data on the user channel. -/
def dU : Data F CU d (cV i) (jV i) where
  qi := pieceOf (tq i) 2 (by decide)
  qt := tq i
  fi := X.iu
  ft := X.tu
  G := gath X.iu X.tu
  hin n x := by
    rw [show (CU.iB n).view.read (Elt F) X.iu x = X.iu ((CU.iB n).view.emb x) from (View.read_apply _ _).trans (cast_eq _ _)]
    exact X.hu _
  hG n x y h0 h1 := by
    rw [show (CU.iB n).view.read (Elt F) X.iu (ix2 (x 0)) = X.iu ((CU.iB n).view.emb (ix2 (x 0))) from (View.read_apply _ _).trans (cast_eq _ _)] at h0
    refine ((View.read_apply _ _).trans (cast_eq _ _)).trans (((gath_spec X.iu X.tu X.hu n x y h0 h1)).trans ?_)
    refine Eq.symm (((View.read_apply _ _).trans (cast_eq _ _)).trans (congrArg X.tu ?_))
    funext a; refine Fin.ext ?_
    exact (Rect.emb_apply _ _ _).trans (by fin_cases a <;> simp)

/-- A tile's data on the item channel. -/
def dI : Data F CI d (cV i) (jV i) where
  qi := pieceOf (tq i) 2 (by decide)
  qt := tq i
  fi := X.ii
  ft := X.ti
  G := gath X.ii X.ti
  hin n x := by
    rw [show (CI.iB n).view.read (Elt F) X.ii x = X.ii ((CI.iB n).view.emb x) from (View.read_apply _ _).trans (cast_eq _ _)]
    exact X.hi _
  hG n x y h0 h1 := by
    rw [show (CI.iB n).view.read (Elt F) X.ii (ix2 (x 0)) = X.ii ((CI.iB n).view.emb (ix2 (x 0))) from (View.read_apply _ _).trans (cast_eq _ _)] at h0
    refine ((View.read_apply _ _).trans (cast_eq _ _)).trans (((gath_spec X.ii X.ti X.hi n x y h0 h1)).trans ?_)
    refine Eq.symm (((View.read_apply _ _).trans (cast_eq _ _)).trans (congrArg X.ti ?_))
    funext a; refine Fin.ext ?_
    exact (Rect.emb_apply _ _ _).trans (by fin_cases a <;> simp)

/-! ## A channel's scratch, opened and closed -/

/-- Two of a family. -/
theorem bs_two (Φ : Fin 2 → sProp 𝕄) : bigSep Finset.univ Φ = iprop(Φ 0 ∗ Φ 1) := BI.bigSep_fin_two Φ

section Open
variable {C : Chan} {d : Dev nD} {i : grid0.Coords} (A : Data F C d (cV i) (jV i))

/-- What a channel's five semaphores hold between runs. -/
def Sems (C : Chan) (d : Dev nD) (i : grid0.Coords) : sProp 𝕄 :=
  iprop(semVal ((V d (cV i) (jV i)), SemLoc.dma (C.siS 0)) 0 ∗ semVal ((V d (cV i) (jV i)), SemLoc.dma (C.siS 1)) 0
    ∗ semVal ((V d (cV i) (jV i)), SemLoc.dma (C.soS 0)) 0 ∗ semVal ((V d (cV i) (jV i)), SemLoc.dma (C.soS 1)) 0
    ∗ semVal ((V d (cV i) (jV i)), SemLoc.dma C.sg.sem) 0)
/-- A channel's scratch buffers, whatever they hold. -/
def Scr (C : Chan) (d : Dev nD) (i : grid0.Coords) : sProp 𝕄 :=
  iprop((∃ f : Buf (Elt F) (C.lb.view.loc (V d (cV i) (jV i))), (C.lb.view.loc (V d (cV i) (jV i))) ↦{fullShare} f) ∗ (∃ f : Buf (Elt F) (C.rb.view.loc (V d (cV i) (jV i))), (C.rb.view.loc (V d (cV i) (jV i))) ↦{fullShare} f))
/-- A channel's shares of its operands. -/
def Reads (q : PosShare TreeShare) : sProp 𝕄 :=
  iprop(((C.ia.view.loc (V d (cV i) (jV i))) ↦{q} A.fi) ∗ ((C.ta.view.loc (V d (cV i) (jV i))) ↦{A.qt} A.ft))

variable {q : PosShare TreeShare} (hq : A.qi = pieceOf q 2 (by decide)) (hlb : C.lb.IsWhole) (hrb : C.rb.IsWhole) (hia : C.ia.view.set = Finset.univ)
  (hta : C.tAll.view.set = Finset.univ)
include hq hlb hrb hia hta

/-- The two slots are disjoint and make up the buffer. -/
theorem lb_parts : (∀ s s', s ≠ s' → Disjoint (α := Finset C.lb.view.ty.Idx) (C.lS s).view.set (C.lS s').view.set)
    ∧ Finset.univ.biUnion (β := C.lb.view.ty.Idx) (fun s => (C.lS s).view.set) = Finset.univ := by
  have h := parts_map C.lb.view.emb hlb.set_eq_univ (a₀ := 0) (n := 2) ⟨1, rfl⟩
  exact ⟨fun s s' hs => by rw [lS_set, lS_set]; exact h.1 s s' hs, (Finset.biUnion_congr rfl fun s _ => lS_set s).trans h.2⟩
/-- The two slots are disjoint and make up the buffer. -/
theorem rb_parts : (∀ s s', s ≠ s' → Disjoint (α := Finset C.rb.view.ty.Idx) (C.rS s).view.set (C.rS s').view.set)
    ∧ Finset.univ.biUnion (β := C.rb.view.ty.Idx) (fun s => (C.rS s).view.set) = Finset.univ := by
  have h := parts_map C.rb.view.emb hrb.set_eq_univ (a₀ := 0) (n := 2) ⟨1, rfl⟩
  exact ⟨fun s s' hs => by rw [rS_set, rS_set]; exact h.1 s s' hs, (Finset.biUnion_congr rfl fun s _ => rS_set s).trans h.2⟩

/-- The scratch, the semaphores and the shares are the slots', free. -/
theorem ch_open : iprop(Scr C d i ∗ Sems C d i ∗ Reads A q) ⊢ (iprop(ListFree A 0 ∗ ListFree A 1 ∗ RowFree A 0 ∗ RowFree A 1 ∗ TabSh A) : sProp 𝕄) := by
  have h1 := parts_split (F := F) (ℓ := C.lb.view.loc (V d (cV i) (jV i))) (fun s => (C.lS s).view.set) (lb_parts A hq hlb hrb hia hta).1 (lb_parts A hq hlb hrb hia hta).2
  have h2 := parts_split (F := F) (ℓ := C.rb.view.loc (V d (cV i) (jV i))) (fun s => (C.rS s).view.set) (rb_parts A hq hlb hrb hia hta).1 (rb_parts A hq hlb hrb hia hta).2
  have h3 : ((C.ia.view.loc (V d (cV i) (jV i))) ↦{q} A.fi : sProp 𝕄) = bigSep Finset.univ fun s : Fin 2 => (C.ia.view.loc (V d (cV i) (jV i))) ↦{pieceOf q 2 (by decide) s} A.fi :=
    pointsTo_piecesOf Finset.univ A.fi (by decide) q
  unfold Scr Sems Reads ListFree RowFree TabSh ListBuf RowBuf Fetch0 Out0
  rw [hq, hia, hta, h3, bs_two]
  rw [bs_two] at h1 h2
  iintro ⟨⟨Hl, Hr⟩, ⟨S0, S1, S2, S3, S4⟩, ⟨Hi0, Hi1⟩, Ht⟩
  ihave Hl := h1 $$ Hl
  icases Hl with ⟨Hl0, Hl1⟩
  ihave Hr := h2 $$ Hr
  icases Hr with ⟨Hr0, Hr1⟩
  isplitl [Hl0 S0 Hi0]
  · isplitl [Hl0]; · iexact Hl0
    isplitl [S0]; · iexact S0
    iexact Hi0
  isplitl [Hl1 S1 Hi1]
  · isplitl [Hl1]; · iexact Hl1
    isplitl [S1]; · iexact S1
    iexact Hi1
  isplitl [Hr0 S2]
  · isplitl [Hr0]; · iexact Hr0
    iexact S2
  isplitl [Hr1 S3]
  · isplitl [Hr1]; · iexact Hr1
    iexact S3
  isplitl [Ht]; · iexact Ht
  iexact S4

/-- And back. -/
theorem ch_close : (iprop(ListFree A 0 ∗ ListFree A 1 ∗ RowFree A 0 ∗ RowFree A 1 ∗ TabSh A) : sProp 𝕄) ⊢ iprop(Scr C d i ∗ Sems C d i ∗ Reads A q) := by
  have h1 := parts_join (F := F) (ℓ := C.lb.view.loc (V d (cV i) (jV i))) (fun s => (C.lS s).view.set) (lb_parts A hq hlb hrb hia hta).1 (lb_parts A hq hlb hrb hia hta).2
  have h2 := parts_join (F := F) (ℓ := C.rb.view.loc (V d (cV i) (jV i))) (fun s => (C.rS s).view.set) (rb_parts A hq hlb hrb hia hta).1 (rb_parts A hq hlb hrb hia hta).2
  have h3 : ((C.ia.view.loc (V d (cV i) (jV i))) ↦{q} A.fi : sProp 𝕄) = bigSep Finset.univ fun s : Fin 2 => (C.ia.view.loc (V d (cV i) (jV i))) ↦{pieceOf q 2 (by decide) s} A.fi :=
    pointsTo_piecesOf Finset.univ A.fi (by decide) q
  unfold Scr Sems Reads ListFree RowFree TabSh ListBuf RowBuf Fetch0 Out0
  rw [hq, hia, hta, h3, bs_two]
  rw [bs_two] at h1 h2
  iintro ⟨⟨Hl0, S0, Hi0⟩, ⟨Hl1, S1, Hi1⟩, ⟨Hr0, S2⟩, ⟨Hr1, S3⟩, Ht, S4⟩
  ihave Hl := h1 $$ [Hl0 Hl1]
  · isplitl [Hl0]; · iexact Hl0
    iexact Hl1
  ihave Hr := h2 $$ [Hr0 Hr1]
  · isplitl [Hr0]; · iexact Hr0
    iexact Hr1
  isplitl [Hl Hr]
  · isplitl [Hl]; · iexact Hl
    iexact Hr
  isplitl [S0 S1 S2 S3 S4]
  · isplitl [S0]; · iexact S0
    isplitl [S1]; · iexact S1
    isplitl [S2]; · iexact S2
    isplitl [S3]; · iexact S3
    iexact S4
  isplitr [Ht]
  · isplitl [Hi0]; · iexact Hi0
    iexact Hi1
  iexact Ht
end Open

end Cert.Proof.Tw
-- ==== Proof.Task.lean ====
/-
  The call on one tile, from the launch's resources to the launch's resources.
-/
module

public import proofs.«01_k».proof.Proof.Tile

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tile's own semaphores and buffers -/

/-- The ten semaphores the call names. -/
abbrev sems : List (SemLoc sig) :=
  [.dma (CU.siS 0), .dma (CU.siS 1), .dma (CU.soS 0), .dma (CU.soS 1), .dma CU.sg.sem, .dma (CI.siS 0), .dma (CI.siS 1), .dma (CI.soS 0), .dma (CI.soS 1), .dma CI.sg.sem]
/-- The four buffers the call names. -/
abbrev scrs : List (Ref sig .scVector) := [cc0_scoped0, cc0_scoped4, cc0_scoped2, cc0_scoped6]

/-- The list repeats nothing. -/
theorem sems_nodup : sems.Nodup := by decide
/-- The listed semaphores are the tile's own. -/
theorem sems_scoped : ∀ s ∈ sems, (s : SemLoc sig).isScoped .scVector = true := by decide
/-- The list repeats nothing. -/
theorem scrs_nodup : scrs.Nodup := by decide

variable (d : Dev nD) (i : grid0.Coords)

/-- The semaphores of a tile the call does not name, at zero. -/
def restSems : sProp 𝕄 :=
  bigSep (ownCells (V d (cV i) (jV i)) \ (sems.map fun s => ((V d (cV i) (jV i)), s)).toFinset) fun g => semVal g 0
/-- The buffers of a tile the call does not name. -/
def restBufs : sProp 𝕄 :=
  bigSep (ownRefs (τ := τ) (.scVector (cV i) (jV i)) \ (scrs.map (Proc.scVector (cV i) (jV i)).devRef).toFinset) fun b => iprop(∃ f, ((d, b) : Loc nD τ sig) ↦{fullShare} f)

/-- What a tile owns at its start, listed. -/
theorem ownSems_eq : (ownSems0 (V d (cV i) (jV i)) : sProp 𝕄)
    = iprop(bigSepL (sems.map fun s => ((V d (cV i) (jV i)), s)) (fun g => semVal g 0) ∗ restSems d i) := by
  unfold SparseCore.Cfg.ownSems0 restSems
  rw [SparseCore.bigSep_sdiff_split' (t := (sems.map fun s => ((V d (cV i) (jV i)), s)).toFinset)]
  · rw [bigSep_eq_bigSepL_of_eq (sems.map fun s => ((V d (cV i) (jV i)), s)) rfl (sems_nodup.map fun a b h => (Prod.mk.inj h).2)]
  · intro g hg
    rw [List.mem_toFinset, List.mem_map] at hg
    obtain ⟨s, hs, rfl⟩ := hg
    exact mem_ownCells.mpr ⟨rfl, sems_scoped s hs⟩

/-- What a tile owns at its start, listed. -/
theorem ownBufs_eq : (ownBufs (V d (cV i) (jV i)) : sProp 𝕄)
    = iprop(bigSepL (scrs.map (Proc.scVector (cV i) (jV i)).devRef) (fun b => iprop(∃ f, ((d, b) : Loc nD τ sig) ↦{fullShare} f)) ∗ restBufs d i) := by
  unfold SparseCore.Cfg.ownBufs restBufs
  rw [SparseCore.bigSep_sdiff_split' (t := (scrs.map (Proc.scVector (cV i) (jV i)).devRef).toFinset)]
  · rw [bigSep_eq_bigSepL_of_eq (scrs.map (Proc.scVector (cV i) (jV i)).devRef) rfl (scrs_nodup.map (Proc.devRef_injective _))]
  · intro g hg
    rw [List.mem_toFinset, List.mem_map] at hg
    obtain ⟨s, hs, rfl⟩ := hg
    refine SparseCore.Cfg.mem_ownRefs_of_owner ?_
    fin_cases hs <;> rfl

/-- What a tile owns splits into the two streams' share and the rest, -/
theorem sems_open : (ownSems0 (V d (cV i) (jV i)) : sProp 𝕄) ⊢ iprop(Sems CU d i ∗ Sems CI d i ∗ restSems d i) := by
  rw [ownSems_eq]
  show (iprop((_ ∗ _ ∗ _ ∗ _ ∗ _ ∗ _ ∗ _ ∗ _ ∗ _ ∗ semVal ((V d (cV i) (jV i)), SemLoc.dma CI.sg.sem) 0) ∗ _) : sProp 𝕄) ⊢ _
  unfold Sems
  iintro ⟨⟨A0, A1, A2, A3, A4, B0, B1, B2, B3, B4⟩, R⟩
  isplitl [A0 A1 A2 A3 A4]
  · isplitl [A0]; · iexact A0
    isplitl [A1]; · iexact A1
    isplitl [A2]; · iexact A2
    isplitl [A3]; · iexact A3
    iexact A4
  isplitr [R]
  · isplitl [B0]; · iexact B0
    isplitl [B1]; · iexact B1
    isplitl [B2]; · iexact B2
    isplitl [B3]; · iexact B3
    iexact B4
  iexact R

/-- and joins again. -/
theorem sems_close : (iprop(Sems CU d i ∗ Sems CI d i ∗ restSems d i) : sProp 𝕄) ⊢ ownSems0 (V d (cV i) (jV i)) := by
  rw [ownSems_eq]
  show _ ⊢ (iprop((_ ∗ _ ∗ _ ∗ _ ∗ _ ∗ _ ∗ _ ∗ _ ∗ _ ∗ semVal ((V d (cV i) (jV i)), SemLoc.dma CI.sg.sem) 0) ∗ _) : sProp 𝕄)
  unfold Sems
  iintro ⟨⟨A0, A1, A2, A3, A4⟩, ⟨B0, B1, B2, B3, B4⟩, R⟩
  isplitr [R]
  · isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    iexact B4
  iexact R

/-- What a tile owns splits into the two streams' share and the rest, -/
theorem bufs_open : (ownBufs (V d (cV i) (jV i)) : sProp 𝕄) ⊢ iprop(Scr CU d i ∗ Scr CI d i ∗ restBufs d i) := by
  rw [ownBufs_eq]
  show (iprop((_ ∗ _ ∗ _ ∗ ∃ f : Buf (Elt F) (CI.rb.view.loc (V d (cV i) (jV i))), (CI.rb.view.loc (V d (cV i) (jV i))) ↦{fullShare} f) ∗ _) : sProp 𝕄) ⊢ _
  unfold Scr
  iintro ⟨⟨A0, A1, B0, B1⟩, R⟩
  isplitl [A0 A1]
  · isplitl [A0]; · iexact A0
    iexact A1
  isplitl [B0 B1]
  · isplitl [B0]; · iexact B0
    iexact B1
  iexact R

/-- and joins again. -/
theorem bufs_close : (iprop(Scr CU d i ∗ Scr CI d i ∗ restBufs d i) : sProp 𝕄) ⊢ ownBufs (V d (cV i) (jV i)) := by
  rw [ownBufs_eq]
  show _ ⊢ (iprop((_ ∗ _ ∗ _ ∗ ∃ f : Buf (Elt F) (CI.rb.view.loc (V d (cV i) (jV i))), (CI.rb.view.loc (V d (cV i) (jV i))) ↦{fullShare} f) ∗ _) : sProp 𝕄)
  unfold Scr
  iintro ⟨⟨A0, A1⟩, ⟨B0, B1⟩, R⟩
  isplitr [R]
  · isplitl [A0]; · iexact A0
    isplitl [A1]; · iexact A1
    isplitl [B0]; · iexact B0
    iexact B1
  iexact R

/-! ## The run -/

variable (X : Ins F)

/-- What a tile is handed: its shares of the operands and its four blocks of each result. -/
def Handed : sProp 𝕄 :=
  iprop((Reads (dU X d i) (tq i) ∗ Td (dU X d i) 0) ∗ (Reads (dI X d i) (tq i) ∗ Td (dI X d i) 0))
/-- What it gives back: the same shares, and the blocks holding the gathered rows. -/
def Back : sProp 𝕄 :=
  iprop((Reads (dU X d i) (tq i) ∗ bigSep (Finset.range 4) fun n => Done (dU X d i) (blk i n)) ∗ (Reads (dI X d i) (tq i) ∗ bigSep (Finset.range 4) fun n => Done (dI X d i) (blk i n)))

/-- A rectangle at the origin as large as its array is the array. -/
theorem unit_zero {s : Shape} {o : Fin s.rank → ℕ} (h : ∀ a, o a + s.size a ≤ s.size a) : (Rect.unit (s := s) o s.size h).set = Finset.univ := by
  refine Finset.eq_univ_iff_forall.mpr fun x => ?_
  refine Rect.mem_set_unit.mpr fun a => ?_
  have h0 := h a
  have h1 := (x a).isLt
  omega

/-- The gather reads its table whole. -/
theorem tAll_univ (C : Chan) (h : C.ta.IsWhole) : C.tAll.view.set = Finset.univ := by
  have h2 : C.tAll.view.set = (Rect.unit (s := S500000x128) ![0, 0] S500000x128.size inb_S500000x128_S500000x128_0_0).set.map C.ta.view.emb :=
    View.set_slice _ _
  exact h2.trans ((congrArg (fun z => Finset.map C.ta.view.emb z) (unit_zero _)).trans h.set_eq_univ)

/-- The program of the call at the point `i` of its grid. -/
abbrev prog := cc0_gather_kernel (F := F) i (Memref.whole main_v0_scv) (Memref.isWhole_whole _) (Memref.whole main_v1_scv) (Memref.isWhole_whole _)
  (Memref.whole main_v14_scv) (Memref.isWhole_whole _) (Memref.whole main_v15_scv) (Memref.isWhole_whole _) (Memref.whole main_v16_0_scv) (Memref.isWhole_whole _)
  (Memref.whole main_v16_1_scv) (Memref.isWhole_whole _) (Memref.whole cc0_scoped0) (Memref.isWhole_whole _) cc0_scoped1 (Memref.whole cc0_scoped2) (Memref.isWhole_whole _) cc0_scoped3
  (Memref.whole cc0_scoped4) (Memref.isWhole_whole _) cc0_scoped5 (Memref.whole cc0_scoped6) (Memref.isWhole_whole _) cc0_scoped7 cc0_scoped8 cc0_scoped9

/-- The table is taken whole. -/
theorem w0 : (Memref.whole main_v0_scv).IsWhole := Memref.isWhole_whole _
/-- The table is taken whole. -/
theorem w1 : (Memref.whole main_v1_scv).IsWhole := Memref.isWhole_whole _
/-- The array of row numbers is taken whole. -/
theorem s14 : (Memref.whole main_v14_scv).view.set = Finset.univ := (Memref.isWhole_whole main_v14_scv).set_eq_univ
/-- The array of row numbers is taken whole. -/
theorem s15 : (Memref.whole main_v15_scv).view.set = Finset.univ := (Memref.isWhole_whole main_v15_scv).set_eq_univ

set_option maxHeartbeats 1000000 in
/-- The call on one tile: from what it is handed and its own scratch, its blocks of the results hold the gathered rows and the rest is as it was. -/
theorem tile_body (O : CellTallies nD τ sig (HIx 1)) (W : Waits sig (HIx 1)) (hO : ∀ g, O g none = 0) :
    iprop(levAts (K (F := F)).L (K (F := F)).lev ∗ emp ∗ Handed d i X
        ∗ scopedBufs (V d (cV i) (jV i)) ∗ scopedSems0 (V d (cV i) (jV i)) ∗ owes (V d (cV i) (jV i)) O W)
      ⊢ (wp frame (wpE (defs₀ (F := F)) 𝒱₀ (V d (cV i) (jV i)) none) Set.univ (prog (F := F) i)
          fun _ => iprop(Back d i X ∗ scopedBufs (V d (cV i) (jV i)) ∗ scopedSems0 (V d (cV i) (jV i))
            ∗ ∃ W', ⌜∀ p ∈ W', p ∈ W ∨ p.2 = none⌝ ∗ owes (V d (cV i) (jV i)) O W') : sProp 𝕄) := by
  rw [(K (F := F)).scopedBufs_V facts d (cV i) (jV i), SparseCore.Cfg.scopedSems0_V (Val := Elt F) d (cV i) (jV i)]
  unfold Handed Back
  iintro ⟨#Hlv, -, ⟨⟨HrU, HtU⟩, ⟨HrI, HtI⟩⟩, Hb, Hs, HO⟩
  ihave Hmw := (show levAts (K (F := F)).L (K (F := F)).lev ⊢ Transfers.MayWaits (V d (cV i) (jV i)) (none : HIx 1) O from
    (K (F := F)).mayWaits_none (thr := V d (cV i) (jV i)) hO) $$ Hlv
  ihave Hb := (bufs_open d i) $$ Hb
  icases Hb with ⟨HbU, HbI, Hb⟩
  ihave Hs := (sems_open d i) $$ Hs
  icases Hs with ⟨HsU, HsI, Hs⟩
  ihave HU := (ch_open (dU X d i) (q := tq i) rfl (Memref.isWhole_whole _) (Memref.isWhole_whole _) s14 (tAll_univ CU w0)) $$ [HbU HsU HrU]
  · isplitl [HbU]; · iexact HbU
    isplitl [HsU]; · iexact HsU
    iexact HrU
  icases HU with ⟨U0, U1, U2, U3, U4⟩
  ihave HI := (ch_open (dI X d i) (q := tq i) rfl (Memref.isWhole_whole _) (Memref.isWhole_whole _) s15 (tAll_univ CI w1)) $$ [HbI HsI HrI]
  · isplitl [HbI]; · iexact HbI
    isplitl [HsI]; · iexact HsI
    iexact HrI
  icases HI with ⟨I0, I1, I2, I3, I4⟩
  iapply (gather_run CU CI (dU X d i) (dI X d i)) $$ [U0 U1 U2 U3 U4 HtU I0 I1 I2 I3 I4 HtI HO Hmw]
  · isplitl [U0 U1 U2 U3 U4 HtU]
    · unfold ChPre
      isplitl [U0]; · iexact U0
      isplitl [U1]; · iexact U1
      isplitl [U2]; · iexact U2
      isplitl [U3]; · iexact U3
      isplitl [U4]; · iexact U4
      iexact HtU
    isplitl [I0 I1 I2 I3 I4 HtI]
    · unfold ChPre
      isplitl [I0]; · iexact I0
      isplitl [I1]; · iexact I1
      isplitl [I2]; · iexact I2
      isplitl [I3]; · iexact I3
      isplitl [I4]; · iexact I4
      iexact HtI
    isplitl [HO]
    · unfold Owes
      iexists W; isplitr
      · ipureintro; exact fun p hp => .inl hp
      iexact HO
    iexact Hmw
  iintro ⟨HU, HI, HO⟩
  unfold ChPost
  icases HU with ⟨U0, U1, U2, U3, U4, HtU⟩
  icases HI with ⟨I0, I1, I2, I3, I4, HtI⟩
  ihave HU := (ch_close (dU X d i) (q := tq i) rfl (Memref.isWhole_whole _) (Memref.isWhole_whole _) s14 (tAll_univ CU w0)) $$ [U0 U1 U2 U3 U4]
  · isplitl [U0]; · iexact U0
    isplitl [U1]; · iexact U1
    isplitl [U2]; · iexact U2
    isplitl [U3]; · iexact U3
    iexact U4
  icases HU with ⟨HbU, HsU, HrU⟩
  ihave HI := (ch_close (dI X d i) (q := tq i) rfl (Memref.isWhole_whole _) (Memref.isWhole_whole _) s15 (tAll_univ CI w1)) $$ [I0 I1 I2 I3 I4]
  · isplitl [I0]; · iexact I0
    isplitl [I1]; · iexact I1
    isplitl [I2]; · iexact I2
    isplitl [I3]; · iexact I3
    iexact I4
  icases HI with ⟨HbI, HsI, HrI⟩
  isplitl [HrU HtU HrI HtI]
  · isplitl [HrU HtU]
    · isplitl [HrU]; · iexact HrU
      iexact HtU
    isplitl [HrI]; · iexact HrI
    iexact HtI
  isplitl [HbU HbI Hb]
  · iapply (bufs_close d i)
    isplitl [HbU]; · iexact HbU
    isplitl [HbI]; · iexact HbI
    iexact Hb
  isplitl [HsU HsI Hs]
  · iapply (sems_close d i)
    isplitl [HsU]; · iexact HsU
    isplitl [HsI]; · iexact HsI
    iexact Hs
  unfold Owes
  iexact HO

/-- The task of a tile, as the program defines it. -/
theorem defs₀_vector (c : Fin τ.nSC) (s : Fin τ.nSub) :
    defs₀ (F := F) (.scVector c s) 0 () = SparseCore.onTile hcore0 hsub0 (fun c s => prog (F := F) (coordsV c s)) ⟨⟩ c s := rfl

end Cert.Proof.Tw
-- ==== Proof.Launch.lean ====
/-
  The call's hand-shake: what it takes from the host, what each tile takes and gives back, and how the two agree.
-/
module

public import proofs.«01_k».proof.Proof.Task

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tiles' parts of an array -/

omit [FloatOps F] in
/-- An array read by all the tiles is its tiles' shares of it. -/
theorem tiles_eq {ℓ : Loc nD τ sig} (f : Buf (Elt F) ℓ) : (ℓ ↦{fullShare} f : sProp 𝕄)
    = BI.bigSep Finset.univ fun c : Fin (grid0.bound 0) => BI.bigSep Finset.univ fun s : Fin (grid0.bound 1) => (ℓ ↦{tq (coordsV c s)} f : sProp 𝕄) := by
  have h : (ℓ ↦{fullShare} f : sProp 𝕄) = BI.bigSep Finset.univ fun t : Fin 32 => (ℓ ↦{pieceOf fullShare 32 (by decide) t} f : sProp 𝕄) :=
    pointsTo_piecesOf Finset.univ f (by decide) fullShare
  rw [h, bigSep_tiles]

section Blocks
variable (C : Chan) (he : (Finset.univ : Finset S16384x128.Idx).map C.oa.view.emb = Finset.univ)
include he

/-- Different blocks of a result have no place in common. -/
theorem oB_disj (t t' : Fin 128) (h : t ≠ t') : Disjoint (α := Finset C.oa.view.ty.Idx) (C.oB t).view.set (C.oB t').view.set := by
  rw [oB_set, oB_set]
  exact (parts_map C.oa.view.emb he ⟨128, rfl⟩).1 t t' h
/-- The blocks of a result are all of it. -/
theorem oB_cover : Finset.univ.biUnion (β := C.oa.view.ty.Idx) (fun t => (C.oB t).view.set) = Finset.univ :=
  (Finset.biUnion_congr rfl fun t _ => oB_set (C := C) t).trans (parts_map C.oa.view.emb he ⟨128, rfl⟩).2
end Blocks

/-- The whole output array is all of its elements. -/
theorem oU : (Finset.univ : Finset S16384x128.Idx).map CU.oa.view.emb = Finset.univ := (Memref.isWhole_whole main_v16_0_scv).set_eq_univ
/-- The whole output array is all of its elements. -/
theorem oI' : (Finset.univ : Finset S16384x128.Idx).map CI.oa.view.emb = Finset.univ := (Memref.isWhole_whole main_v16_1_scv).set_eq_univ

/-! ## What the call takes and gives back -/

/-- What one channel of a tile is handed, and what it gives back. -/
abbrev In1 {C : Chan} {d : Dev nD} {i : grid0.Coords} (A : Data F C d (cV i) (jV i)) : sProp 𝕄 := iprop(Reads A (tq i) ∗ Td A 0)
abbrev Out1 {C : Chan} {d : Dev nD} {i : grid0.Coords} (A : Data F C d (cV i) (jV i)) : sProp 𝕄 :=
  iprop(Reads A (tq i) ∗ BI.bigSep (Finset.range 4) fun n => Done A (blk i n))

/-- Over the call's tiles. -/
abbrev overTiles (Φ : grid0.Coords → sProp 𝕄) : sProp 𝕄 :=
  BI.bigSep Finset.univ fun c : Fin (grid0.bound 0) => BI.bigSep Finset.univ fun s : Fin (grid0.bound 1) => Φ (coordsV c s)

omit [FloatOps F] in
theorem overTiles_sep (Φ Ψ : grid0.Coords → sProp 𝕄) : (overTiles fun i => iprop(Φ i ∗ Ψ i)) = iprop(overTiles Φ ∗ overTiles Ψ) :=
  (bigSep_congr fun _ _ => bigSep_sep' _ _ _).trans (bigSep_sep' _ _ _)

section Chan1
variable {ℓ1 ℓ2 ℓ3 : Loc nD τ sig} (f1 : Buf (Elt F) ℓ1) (f2 : Buf (Elt F) ℓ2) (Kp : Fin 128 → Finset (Idx ℓ3)) (hd : ∀ t t', t ≠ t' → Disjoint (Kp t) (Kp t')) (hc : Finset.univ.biUnion Kp = Finset.univ)

include hd hc in
omit [FloatOps F] in
/-- A channel's operands and result, whole, are what its tiles are handed. -/
theorem chan_in (A : grid0.Coords → sProp 𝕄)
    (hA : ∀ i, A i = iprop(((ℓ1 ↦{tq i} f1) ∗ (ℓ2 ↦{tq i} f2)) ∗ BI.bigSep (Finset.Ico 0 4) fun n => iprop(∃ f, ℓ3 ↦[Kp (blk i n)]{fullShare} f))) :
    (iprop((ℓ1 ↦{fullShare} f1) ∗ (ℓ2 ↦{fullShare} f2) ∗ ∃ f, ℓ3 ↦{fullShare} f) : sProp 𝕄) ⊢ overTiles A := by
  rw [show A = _ from funext hA, overTiles_sep, overTiles_sep, tiles_eq f1, tiles_eq f2]
  iintro ⟨H1, H2, H3⟩
  isplitl [H1 H2]
  · isplitl [H1]; · iexact H1
    iexact H2
  ihave H3 := (parts_split Kp hd hc) $$ H3
  iapply (Entails.of_eq (bigSep_blocks (fun t => (iprop(∃ f : Buf (Elt F) ℓ3, ℓ3 ↦[Kp t]{fullShare} f) : sProp 𝕄)))) $$ H3

include hd hc in
omit [FloatOps F] in
/-- What its tiles give back is the channel's operands and its result, whole. -/
theorem chan_out (f3 : Buf (Elt F) ℓ3) (A : grid0.Coords → sProp 𝕄)
    (hA : ∀ i, A i = iprop(((ℓ1 ↦{tq i} f1) ∗ (ℓ2 ↦{tq i} f2)) ∗ BI.bigSep (Finset.range 4) fun n => (ℓ3 ↦[Kp (blk i n)]{fullShare} f3))) :
    overTiles A ⊢ (iprop((ℓ1 ↦{fullShare} f1) ∗ (ℓ2 ↦{fullShare} f2) ∗ (ℓ3 ↦{fullShare} f3)) : sProp 𝕄) := by
  rw [show A = _ from funext hA, overTiles_sep, overTiles_sep, tiles_eq f1, tiles_eq f2, parts_eq Kp hd hc f3, bigSep_blocks]
  iintro ⟨⟨H1, H2⟩, H3⟩
  isplitl [H1]; · iexact H1
  isplitl [H2]; · iexact H2
  iexact H3
end Chan1

variable (X : Ins F) (d : Dev nD)

/-- The place of a host array on a device. -/
abbrev at_ (b : Ref sig .tc) : Loc nD τ sig := (d.tc : Thread nD τ).loc b

/-- What the call takes from the host: its operands, and its results of any contents. -/
def Given : sProp 𝕄 :=
  iprop(((at_ d main_v14 ↦{fullShare} X.iu) ∗ (at_ d main_v0 ↦{fullShare} X.tu) ∗ ∃ f, at_ d main_v16_0 ↦{fullShare} f)
    ∗ ((at_ d main_v15 ↦{fullShare} X.ii) ∗ (at_ d main_v1 ↦{fullShare} X.ti) ∗ ∃ f, at_ d main_v16_1 ↦{fullShare} f))
/-- What the host has back: the operands as they were, the results the gathered rows. -/
def Got : sProp 𝕄 :=
  iprop(((at_ d main_v14 ↦{fullShare} X.iu) ∗ (at_ d main_v0 ↦{fullShare} X.tu) ∗ (at_ d main_v16_0 ↦{fullShare} gath X.iu X.tu))
    ∗ ((at_ d main_v15 ↦{fullShare} X.ii) ∗ (at_ d main_v1 ↦{fullShare} X.ti) ∗ (at_ d main_v16_1 ↦{fullShare} gath X.ii X.ti)))

/-- What the call is given splits into what each tile is handed. -/
theorem given_tiles : (Given X d : sProp 𝕄) ⊢ overTiles fun i => Handed d i X := by
  unfold Given Handed
  rw [overTiles_sep]
  iintro ⟨HU, HI⟩
  isplitl [HU]
  · iapply (chan_in (ℓ1 := at_ d main_v14) (ℓ2 := at_ d main_v0) (ℓ3 := at_ d main_v16_0) X.iu X.tu (fun t => (CU.oB t).view.set) (oB_disj CU oU) (oB_cover CU oU)
      (fun i => In1 (dU X d i)) fun i => rfl)
    iexact HU
  · iapply (chan_in (ℓ1 := at_ d main_v15) (ℓ2 := at_ d main_v1) (ℓ3 := at_ d main_v16_1) X.ii X.ti (fun t => (CI.oB t).view.set) (oB_disj CI oI') (oB_cover CI oI')
      (fun i => In1 (dI X d i)) fun i => rfl)
    iexact HI

/-- What the tiles hand back makes up what the call returns. -/
theorem tiles_got : (overTiles fun i => Back d i X) ⊢ (Got X d : sProp 𝕄) := by
  unfold Got Back
  rw [overTiles_sep]
  iintro ⟨HU, HI⟩
  isplitl [HU]
  · iapply (chan_out (ℓ1 := at_ d main_v14) (ℓ2 := at_ d main_v0) (ℓ3 := at_ d main_v16_0) X.iu X.tu (fun t => (CU.oB t).view.set) (oB_disj CU oU) (oB_cover CU oU)
      (gath X.iu X.tu) (fun i => Out1 (dU X d i)) fun i => rfl)
    iexact HU
  · iapply (chan_out (ℓ1 := at_ d main_v15) (ℓ2 := at_ d main_v1) (ℓ3 := at_ d main_v16_1) X.ii X.ti (fun t => (CI.oB t).view.set) (oB_disj CI oI') (oB_cover CI oI')
      (gath X.ii X.ti) (fun i => Out1 (dI X d i)) fun i => rfl)
    iexact HI

/-! ## The hand-shake -/

/-- Tile `i` of SparseCore `c`. -/
abbrev ct (c : Fin ((K (F := F)).nCore 0)) (i : Fin ((K (F := F)).nSub 0)) : grid0.Coords := coordsV ⟨c.val, c.isLt⟩ ⟨i.val, i.isLt⟩

variable (XX : Dev nD → Ins F)

/-- What a SparseCore is handed, its tiles' parts, and what it gives back. -/
def StS (c : Fin ((K (F := F)).nCore 0)) : sProp 𝕄 := BI.bigSep Finset.univ fun i : Fin ((K (F := F)).nSub 0) => Handed d (ct (F := F) c i) (XX d)
def DnS (c : Fin ((K (F := F)).nCore 0)) : sProp 𝕄 := BI.bigSep Finset.univ fun i : Fin ((K (F := F)).nSub 0) => Back d (ct (F := F) c i) (XX d)

/-- What the call's messages carry: to a SparseCore its tiles' parts, to a tile its own; and back. -/
def P : (K (F := F)).Pay (nD := nD) (Val := Elt F) (Name := ℕ) (U := UU) where
  st := fun q d c => match q with | 0 => StS d XX c
  dn := fun q d c => match q with | 0 => DnS d XX c
  go := fun q d c i => match q with | 0 => Handed d (ct (F := F) c i) (XX d)
  td := fun q d c i => match q with | 0 => Back d (ct (F := F) c i) (XX d)
  x := fun _ _ => iprop(emp)

section Stor
variable {C : Chan} {c : Fin τ.nSC} {j : Fin τ.nSub} (A : Data F C d c j) {i : grid0.Coords} (B : Data F C d (cV i) (jV i))
instance reads_storable (q : PosShare TreeShare) : BI.Storable (upEmb : UEmb _ 𝕄) (Reads B q) := by unfold Reads; infer_instance
instance todo_storable (n : Fin 128) : BI.Storable (upEmb : UEmb _ 𝕄) (Todo A n) := by unfold Todo; infer_instance
instance done_storable (n : Fin 128) : BI.Storable (upEmb : UEmb _ 𝕄) (Done A n) := by unfold Done; infer_instance
instance td_storable (t : ℕ) : BI.Storable (upEmb : UEmb _ 𝕄) (Td B t) := by unfold Td; infer_instance
end Stor
instance handed_storable (i : grid0.Coords) : BI.Storable (upEmb : UEmb _ 𝕄) (Handed d i X) := by
  unfold Handed; infer_instance
instance back_storable (i : grid0.Coords) : BI.Storable (upEmb : UEmb _ 𝕄) (Back d i X) := by
  unfold Back; infer_instance

instance st_storable (c : Fin ((K (F := F)).nCore 0)) : BI.Storable (upEmb : UEmb _ 𝕄) (StS d XX c) := by unfold StS; infer_instance
instance dn_storable (c : Fin ((K (F := F)).nCore 0)) : BI.Storable (upEmb : UEmb _ 𝕄) (DnS d XX c) := by unfold DnS; infer_instance

instance P_storable : (P XX).IsStorable where
  st q d c := match q with | 0 => (inferInstance : BI.Storable (upEmb : UEmb _ 𝕄) (StS d XX c))
  dn q d c := match q with | 0 => (inferInstance : BI.Storable (upEmb : UEmb _ 𝕄) (DnS d XX c))
  go q d c i := match q with | 0 => (inferInstance : BI.Storable (upEmb : UEmb _ 𝕄) (Handed d (ct (F := F) c i) (XX d)))
  td q d c i := match q with | 0 => (inferInstance : BI.Storable (upEmb : UEmb _ 𝕄) (Back d (ct (F := F) c i) (XX d)))

/-- A core's share of the call splits over its tiles, and what they return joins again. -/
theorem vecSplit : (K (F := F)).VecSplit' (P XX) 0 := by
  intro d c
  show StS d XX c ⊢ (|={Set.univ}=> iprop(
    (BI.bigSep Finset.univ fun i : Fin ((K (F := F)).nSub 0) => Handed d (ct (F := F) c i) (XX d))
    ∗ ((BI.bigSep Finset.univ fun i : Fin ((K (F := F)).nSub 0) => Back d (ct (F := F) c i) (XX d)) -∗ DnS d XX c)) : sProp 𝕄)
  unfold StS DnS
  iintro H; imodintro
  isplitl [H]; · iexact H
  iintro H; iexact H

omit [FloatOps F] in
/-- A call's obligation allows the waits of the body's own copies. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P XX) v₀ 0 := by
  intro d c i O W hO _ _
  simp only [show (P XX).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (XX d) O W hO).trans (wp_mono frame _ _ fun _ => obl_post)

end Cert.Proof.Tw
-- ==== Proof.Towers.lean ====
/-
  The kernel of the two towers on one block of rows.
-/
module

public import proofs.«01_k».proof.Proof.Setup
public import proofs.«01_k».proof.Proof.Gen.KernelIdeal.Skeleton
public import proofs.«01_k».proof.Proof.Gen.KernelIdeal.Points
public import Idealize.ShloMosaic.Lib.VecWindow
public import Idealize.ShloMosaic.Lib.Tactic

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the kernel computes of a block -/

/-- The scores of a block of rows: `Y1`, `Y2` the gathered rows of users and items, `Y3`, `Y4` which half of each is meant, then the weights of the two towers. -/
def tow (Y1 : Vec F S2048x128 .f32) (Y2 : Vec F S2048x128 .f32) (Y3 : Vec F S2048x1 .f32) (Y4 : Vec F S2048x1 .f32) (Y5 : Vec F S64x128 .f32) (Y6 : Vec F S1x128 .f32) (Y7 : Vec F S128x64 .f32) (Y8 : Vec F S1x64 .f32) (Y9 : Vec F S64x128 .f32) (Y10 : Vec F S1x128 .f32) (Y11 : Vec F S128x64 .f32) (Y12 : Vec F S1x64 .f32) : FVec F S2048 .f32 :=
  k1_pay1 (k1_pay2 Y1 Y3 Y5 Y6 Y7 Y8) (k1_pay3 Y2) (k1_pay4 Y4) Y9 Y10 Y11 Y12

variable (d : Dev nD) (i : grid1.Coords)

/-- A whole staging buffer read at the origin is its contents. -/
theorem read_full {s : Shape} {e : EltTy} (M : Memref sig .tc .vmem s e) (f : Buf (Elt F) (M.view.loc (d.tc : Thread nD τ))) {off : Fin s.rank → ℕ}
    (inb : ∀ a, off a + s.size a ≤ s.size a) : M.view.readAt (Elt F) (Rect.unit (s := s) off s.size inb).toLoadRect f = M.view.read (Elt F) f :=
  View.readAt_full M.view f inb

set_option maxRecDepth 16384 in
/-- The kernel leaves the operands as they were and the scores in the result's buffer. -/
theorem towers_run (M1 : Memref sig .tc .vmem S2048x128 .f32) (h1 : M1.IsWhole) (M2 : Memref sig .tc .vmem S2048x128 .f32) (h2 : M2.IsWhole) (M3 : Memref sig .tc .vmem S2048x1 .f32) (h3 : M3.IsWhole) (M4 : Memref sig .tc .vmem S2048x1 .f32) (h4 : M4.IsWhole) (M5 : Memref sig .tc .vmem S64x128 .f32) (h5 : M5.IsWhole) (M6 : Memref sig .tc .vmem S1x128 .f32) (h6 : M6.IsWhole) (M7 : Memref sig .tc .vmem S128x64 .f32) (h7 : M7.IsWhole) (M8 : Memref sig .tc .vmem S1x64 .f32) (h8 : M8.IsWhole) (M9 : Memref sig .tc .vmem S64x128 .f32) (h9 : M9.IsWhole) (M10 : Memref sig .tc .vmem S1x128 .f32) (h10 : M10.IsWhole) (M11 : Memref sig .tc .vmem S128x64 .f32) (h11 : M11.IsWhole) (M12 : Memref sig .tc .vmem S1x64 .f32) (h12 : M12.IsWhole) (M13 : Memref sig .tc .vmem S2048 .f32) (h13 : M13.IsWhole) (Y1 : Vec F S2048x128 .f32) (Y2 : Vec F S2048x128 .f32) (Y3 : Vec F S2048x1 .f32) (Y4 : Vec F S2048x1 .f32) (Y5 : Vec F S64x128 .f32) (Y6 : Vec F S1x128 .f32) (Y7 : Vec F S128x64 .f32) (Y8 : Vec F S1x64 .f32) (Y9 : Vec F S64x128 .f32) (Y10 : Vec F S1x128 .f32) (Y11 : Vec F S128x64 .f32) (Y12 : Vec F S1x64 .f32) (E : Set ℕ) (Q : PUnit → sProp 𝕄) :
    iprop(owns (d.tc : Thread nD τ) M1 fullShare Y1 ∗ owns (d.tc : Thread nD τ) M2 fullShare Y2 ∗ owns (d.tc : Thread nD τ) M3 fullShare Y3 ∗ owns (d.tc : Thread nD τ) M4 fullShare Y4 ∗ owns (d.tc : Thread nD τ) M5 fullShare Y5 ∗ owns (d.tc : Thread nD τ) M6 fullShare Y6 ∗ owns (d.tc : Thread nD τ) M7 fullShare Y7 ∗ owns (d.tc : Thread nD τ) M8 fullShare Y8 ∗ owns (d.tc : Thread nD τ) M9 fullShare Y9 ∗ owns (d.tc : Thread nD τ) M10 fullShare Y10 ∗ owns (d.tc : Thread nD τ) M11 fullShare Y11 ∗ owns (d.tc : Thread nD τ) M12 fullShare Y12 ∗ (∃ Y, owns (d.tc : Thread nD τ) M13 fullShare Y)
      ∗ (iprop(owns (d.tc : Thread nD τ) M1 fullShare Y1 ∗ owns (d.tc : Thread nD τ) M2 fullShare Y2 ∗ owns (d.tc : Thread nD τ) M3 fullShare Y3 ∗ owns (d.tc : Thread nD τ) M4 fullShare Y4 ∗ owns (d.tc : Thread nD τ) M5 fullShare Y5 ∗ owns (d.tc : Thread nD τ) M6 fullShare Y6 ∗ owns (d.tc : Thread nD τ) M7 fullShare Y7 ∗ owns (d.tc : Thread nD τ) M8 fullShare Y8 ∗ owns (d.tc : Thread nD τ) M9 fullShare Y9 ∗ owns (d.tc : Thread nD τ) M10 fullShare Y10 ∗ owns (d.tc : Thread nD τ) M11 fullShare Y11 ∗ owns (d.tc : Thread nD τ) M12 fullShare Y12 ∗ owns (d.tc : Thread nD τ) M13 fullShare (tow Y1 Y2 Y3 Y4 Y5 Y6 Y7 Y8 Y9 Y10 Y11 Y12)) -∗ Q ⟨⟩))
      ⊢ wp frame (wpE (defs₀ (F := F)) 𝒱₀ (d.tc : Thread nD τ) none) E (cc1__towers_kernel (F := F) i M1 h1 M2 h2 M3 h3 M4 h4 M5 h5 M6 h6 M7 h7 M8 h8 M9 h9 M10 h10 M11 h11 M12 h12 M13 h13) Q := by
  unfold owns
  rw [cc1__towers_kernel_eq_skeleton]
  unfold cc1__towers_kernel_skel
  rw [k1_part1_eq_skeleton]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%Y, %f13, -, H13⟩, Hk⟩
  sl_exec!
  sl_step
  iapply Hk
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists f9; isplitr
    · ipureintro; exact e9
    iexact H9
  isplitl [H10]
  · iexists f10; isplitr
    · ipureintro; exact e10
    iexact H10
  isplitl [H11]
  · iexists f11; isplitr
    · ipureintro; exact e11
    iexact H11
  isplitl [H12]
  · iexists f12; isplitr
    · ipureintro; exact e12
    iexact H12
  iexists _; isplitr; swap
  · iexact H13
  ipureintro
  subst e1 e2 e3 e4 e5 e6 e7 e8 e9 e10 e11 e12
  refine (View.read_writes_full _ _ _ _ _).trans ?_
  unfold tow
  rw [← read_full d M1 f1 inb_S2048x128_S2048x128_0_0, ← read_full d M2 f2 inb_S2048x128_S2048x128_0_0, ← read_full d M3 f3 inb_S2048x1_S2048x1_0_0, ← read_full d M4 f4 inb_S2048x1_S2048x1_0_0,
    ← read_full d M5 f5 inb_S64x128_S64x128_0_0, ← read_full d M6 f6 inb_S1x128_S1x128_0_0, ← read_full d M7 f7 inb_S128x64_S128x64_0_0, ← read_full d M8 f8 inb_S1x64_S1x64_0_0,
    ← read_full d M9 f9 inb_S64x128_S64x128_0_0, ← read_full d M10 f10 inb_S1x128_S1x128_0_0, ← read_full d M11 f11 inb_S128x64_S128x64_0_0, ← read_full d M12 f12 inb_S1x64_S1x64_0_0]
  rfl

end Cert.Proof.Tw
-- ==== Proof.Region.lean ====
/-
  The call of the two towers: one block of rows after the other.
-/
module

public import proofs.«01_k».proof.Proof.Towers
public import Idealize.ShloMosaic.Lib.Pipeline.FrameTail
public import Idealize.ShloMosaic.Lib.Pipeline.Kit

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (Dat Cfg Window BodyObligation cellOf)

/-! ## What the call computes of the arrays it is given -/

section Data
variable [∀ e, Nonempty (Elt F e)] (V : Dev nD → Valuation τ sig (Elt F)) (d : Dev nD)

/-- Operand `w`'s block at step `t`. -/
abbrev blkOf (w : Fin 13) (t : Fin cfg1.N) : ((cfg1.win w).xblock (cfg1.grid.coords t)).Idx → Elt F (cfg1.win w).elt :=
  ((cfg1.win w).blk t).view.read (Elt F) (V d (Proc.devRef .tc (Pipeline.arrRef spec1 w)))

/-- The scores of step `t`'s block of rows. -/
def towOf (t : Fin cfg1.N) : FVec F S2048 .f32 :=
  tow (blkOf V d 0 t) (blkOf V d 1 t) (blkOf V d 2 t) (blkOf V d 3 t) (blkOf V d 4 t) (blkOf V d 5 t) (blkOf V d 6 t) (blkOf V d 7 t)
    (blkOf V d 8 t) (blkOf V d 9 t) (blkOf V d 10 t) (blkOf V d 11 t)

/-- What the call's steps find and leave: each operand's block where it was fetched, the scores in the result's. -/
def dat : Dat τ (Elt F) (HIx 1) ℕ UU ℕ cfg1 d where
  A w := V d (Proc.devRef .tc (Pipeline.arrRef spec1 w))
  after w t := match w with
    | ⟨0, _⟩ => blkOf V d 0 t
    | ⟨1, _⟩ => blkOf V d 1 t
    | ⟨2, _⟩ => blkOf V d 2 t
    | ⟨3, _⟩ => blkOf V d 3 t
    | ⟨4, _⟩ => blkOf V d 4 t
    | ⟨5, _⟩ => blkOf V d 5 t
    | ⟨6, _⟩ => blkOf V d 6 t
    | ⟨7, _⟩ => blkOf V d 7 t
    | ⟨8, _⟩ => blkOf V d 8 t
    | ⟨9, _⟩ => blkOf V d 9 t
    | ⟨10, _⟩ => blkOf V d 10 t
    | ⟨11, _⟩ => blkOf V d 11 t
    | ⟨12, _⟩ => towOf V d t
  Φ _ := Pipeline.scopedRest (Ix := HIx 1) (Name := ℕ) (U := UU) (Lvl := ℕ) (Val := Elt F) spec1 d
  q _ := fullShare
  owed _ := 0
  recorded _ := {p | (K (F := F)).lev ((d.tc : Thread nD τ), p.1) p.2 ≤ 8}

abbrev dats : (p : Fin 1) → (c : Dev nD) → Dat τ (Elt F) (HIx 1) ℕ UU ℕ (cfgs p) c := fun _ c => dat V c

/-- An operand's buffer holds its block when a step runs, whether or not that step fetched it. -/
theorem before_in (w : Fin 13) (hw : (cfg1.win w).isOut = false) (hk : ∀ t, (cfg1.win w).cut (cfg1.grid.coords t) ((dat V d).after w t) = (dat V d).blockOf w t)
    (hc : ∀ t t' : Fin cfg1.N, (cfg1.win w).index t = (cfg1.win w).index t' →
      (cfg1.win w).clip (cfg1.grid.coords t) = (cfg1.win w).clip (cfg1.grid.coords t'))
    (t : Fin cfg1.N) (x : (cfg1.win w).block.Idx → Elt F (cfg1.win w).elt) :
    (dat V d).before w t x = (dat V d).fetched w t x :=
  (dat V d).before_in_eq_fetched w hw (fun _ => rfl) hc hk t x

end Data

/-! ## A step -/

section Step
variable [FloatOps F] [∀ e, Nonempty (Elt F e)] (V : Dev nD → Valuation τ sig (Elt F)) (d : Dev nD)

/-- The body of the region at a step is the towers' block. -/
theorem defs₀_row (t : Fin cfg1.N) : defs₀ (F := F) .tc cfg1.body (cfg1.bodyArgs t (cfg1.slots t)) = bodyAt1 t := rfl

set_option maxRecDepth 16384 in
set_option maxHeartbeats 2000000 in
/-- A step leaves the operands' blocks as found and the scores in the result's. -/
theorem body_obligation : BodyObligation (dat V d) (defs₀ (F := F)) 𝒱₀ none Set.univ := fun t => by
  rw [bigSep_W1, bigSep_W1, defs₀_row]
  rw [show (dat V d).owesAt none t.succ = (dat V d).owesAt none t.castSucc from rfl, show (dat V d).Φ t.succ = (dat V d).Φ t.castSucc from rfl]
  have h0 := before_in V d 0 rfl (fun _ => rfl) (fun _ _ _ => rfl) t
  have h1 := before_in V d 1 rfl (fun _ => rfl) (fun _ _ _ => rfl) t
  have h2 := before_in V d 2 rfl (fun _ => rfl) (fun _ _ _ => rfl) t
  have h3 := before_in V d 3 rfl (fun _ => rfl) (fun _ _ _ => rfl) t
  have h4 := before_in V d 4 rfl (fun _ => rfl) (fun _ _ _ => rfl) t
  have h5 := before_in V d 5 rfl (fun _ => rfl) (fun _ _ _ => rfl) t
  have h6 := before_in V d 6 rfl (fun _ => rfl) (fun _ _ _ => rfl) t
  have h7 := before_in V d 7 rfl (fun _ => rfl) (fun _ _ _ => rfl) t
  have h8 := before_in V d 8 rfl (fun _ => rfl) (fun _ _ _ => rfl) t
  have h9 := before_in V d 9 rfl (fun _ => rfl) (fun _ _ _ => rfl) t
  have h10 := before_in V d 10 rfl (fun _ => rfl) (fun _ _ _ => rfl) t
  have h11 := before_in V d 11 rfl (fun _ => rfl) (fun _ _ _ => rfl) t
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [h0, h1, h2, h3, h4, h5, h6, h7, h8, h9, h10, h11]
  iapply (towers_run d (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    (win1_12.stage (cfg1.slots t 12)) (hstage1_12 ((cfg1.slots t 12).cast nbuf1_12))
    (blkOf V d 0 t) (blkOf V d 1 t) (blkOf V d 2 t) (blkOf V d 3 t) (blkOf V d 4 t) (blkOf V d 5 t) (blkOf V d 6 t) (blkOf V d 7 t)
    (blkOf V d 8 t) (blkOf V d 9 t) (blkOf V d 10 t) (blkOf V d 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Step

/-! ## The call over the buffers of the main program -/

section Region
variable [FloatOps F] [∀ e, Nonempty (Elt F e)] (V : Dev nD → Valuation τ sig (Elt F))

/-- The buffers after the call: the result's at the scores, every other as it was. -/
def leaves (d : Dev nD) : Valuation τ sig (Elt F) := Pipeline.afterRegion (dat V d) (V d)

/-- The tables of the call's windows are none. -/
abbrev adm : (p : Fin 1) → (pcfgs (F := F) p).Adm := fun p => (cfgs p).toPCfg_adm

/-- What the main program holds at a point: its buffers, and that it owes nothing and waited for nothing above level 8. -/
abbrev hostSt (W : Dev nD → Valuation τ sig (Elt F)) (d : Dev nD) : sProp 𝕄 :=
  iprop(StableHlo.held (d.tc : Thread nD τ) (Pipeline.ucRefs τ sig) (W d)
    ∗ ∃ R, ⌜∀ p ∈ R, (K (F := F)).lev ((d.tc : Thread nD τ), p.1) p.2 ≤ 8⌝ ∗ owes (d.tc : Thread nD τ) (0 : CellTallies nD τ sig (HIx 1)) R)

set_option backward.isDefEq.respectTransparency.types false in
/-- The call, from the buffers at `V` to the buffers it leaves. -/
def reg : Pipeline.RegionSeg (pcfgs (F := F)) adm (dats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero pcfgs adm (dats V) none (K (F := F)).L (K (F := F)).lev 0 fun _ _ => rfl
  pre c := hostSt V c
  post c := hostSt (leaves V) c
  X _ := BI.emp
  Y _ := BI.emp
  Z c := Pipeline.unscopedRest (Ix := HIx 1) (Name := ℕ) (U := UU) (Lvl := ℕ) spec1 c (fun b => V c (Proc.devRef .tc b))
  hentry c := by
    unfold hostSt
    rw [Pipeline.ownSems0_none, show StableHlo.held (c.tc : Thread nD τ) (Pipeline.ucRefs τ sig) (V c) = unscopedBufs c (fun b => V c (Proc.devRef .tc b))
      from (Pipeline.unscopedBufs_held (Ix := HIx 1) (Name := ℕ) (U := UU) (Lvl := ℕ) c (V c)).symm]
    have hsplit := Pipeline.arrays_of_unscopedBufs (p := 0) (pcfgs (F := F)) adm (dats V) (launch1).win (launch1).arr_whole c
      ((dats V 0 c).share_full fun _ => rfl) (fun b => V c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%R, %hR, HO⟩; iexists R; isplitr; · ipureintro; exact fun p hp => Or.inl (hR p hp)
      iexact HO
    isplitr; · iempintro
    iexact Hrest
  hin c := by
    rw [show (dats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (dats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (dats V) ((dats V 0 c).share_full fun _ => rfl) (fun b => V c (Proc.devRef .tc b)) (fun b => leaves V c (Proc.devRef .tc b)) ((dats V 0 c).arrAt · cfg1.N)
      (fun w => (Pipeline.afterRegion_arr (dat V c) (V c) (launch1).win.arr_inj w).symm)
      (fun b hb => Pipeline.afterRegion_of_not_arr (dat V c) (V c) fun w h => hb (h ▸ Finset.mem_image.mpr ⟨w, Finset.mem_univ _, rfl⟩))
    unfold hostSt
    rw [show StableHlo.held (c.tc : Thread nD τ) (Pipeline.ucRefs τ sig) (leaves V c) = unscopedBufs c (fun b => leaves V c (Proc.devRef .tc b))
      from (Pipeline.unscopedBufs_held (Ix := HIx 1) (Name := ℕ) (U := UU) (Lvl := ℕ) c (leaves V c)).symm]
    iintro ⟨Ha, HO, -, Hrest⟩
    imodintro
    isplitl [Ha Hrest]
    · iapply hjoin; isplitl [Ha] <;> iassumption
    unfold Pipeline.Dat.owesAt Pipeline.owesWithin
    icases HO with ⟨%R, %hR, HO⟩; iexists R
    isplitr
    · ipureintro
      intro p hp
      rcases hR hp with h | ⟨w, s, rfl⟩
      · exact h
      · exact Nat.zero_le 8
    iexact HO

end Region

end Cert.Proof.Tw
-- ==== Proof.Main.lean ====
/-
  The main program: the host's operations, the gathers on the SparseCores, the call of the two towers.
-/
module

public import proofs.«01_k».proof.Proof.Launch
public import proofs.«01_k».proof.Proof.Region

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host's operations -/

section Host
variable [FloatOps F]

/-- The operations before the gathers, and those between the gathers and the towers. -/
def ops1 : List (HloOp τ sig (Elt F)) := [
  StableHlo.reshape main_arg2 main_v0 (rfl : (.f32 : EltTy) = .f32) shapeCasts_S1000000x64_S500000x128,
  StableHlo.reshape main_arg3 main_v1 (rfl : (.f32 : EltTy) = .f32) shapeCasts_S1000000x64_S500000x128,
  StableHlo.nullary main_c (constantI S_ 32 1#32),
  StableHlo.unary main_c main_v2 (broadcastInDim S16384 ![] bcast_S_S16384 : (⟨S_, .i32⟩ : BufTy).Contents (Elt F) → (⟨S16384, .i32⟩ : BufTy).Contents (Elt F)),
  StableHlo.binary main_arg0 main_v2 main_v3 (Host.shrui : (⟨S16384, .i32⟩ : BufTy).Contents (Elt F) → (⟨S16384, .i32⟩ : BufTy).Contents (Elt F) → (⟨S16384, .i32⟩ : BufTy).Contents (Elt F)),
  StableHlo.nullary main_c_0 (constantI S_ 32 1#32),
  StableHlo.unary main_c_0 main_v4 (broadcastInDim S16384 ![] bcast_S_S16384 : (⟨S_, .i32⟩ : BufTy).Contents (Elt F) → (⟨S16384, .i32⟩ : BufTy).Contents (Elt F)),
  StableHlo.binary main_arg1 main_v4 main_v5 (Host.shrui : (⟨S16384, .i32⟩ : BufTy).Contents (Elt F) → (⟨S16384, .i32⟩ : BufTy).Contents (Elt F) → (⟨S16384, .i32⟩ : BufTy).Contents (Elt F)),
  StableHlo.nullary main_c_1 (constantI S_ 32 1#32),
  StableHlo.unary main_c_1 main_v6 (broadcastInDim S16384 ![] bcast_S_S16384 : (⟨S_, .i32⟩ : BufTy).Contents (Elt F) → (⟨S16384, .i32⟩ : BufTy).Contents (Elt F)),
  StableHlo.binary main_arg0 main_v6 main_v7 (andi : (⟨S16384, .i32⟩ : BufTy).Contents (Elt F) → (⟨S16384, .i32⟩ : BufTy).Contents (Elt F) → (⟨S16384, .i32⟩ : BufTy).Contents (Elt F)),
  StableHlo.unary main_v7 main_v8 (sitofp .f32 : (⟨S16384, .i32⟩ : BufTy).Contents (Elt F) → (⟨S16384, .f32⟩ : BufTy).Contents (Elt F)),
  StableHlo.reshape main_v8 main_v9 (rfl : (.f32 : EltTy) = .f32) shapeCasts_S16384_S16384x1,
  StableHlo.nullary main_c_2 (constantI S_ 32 1#32),
  StableHlo.unary main_c_2 main_v10 (broadcastInDim S16384 ![] bcast_S_S16384 : (⟨S_, .i32⟩ : BufTy).Contents (Elt F) → (⟨S16384, .i32⟩ : BufTy).Contents (Elt F)),
  StableHlo.binary main_arg1 main_v10 main_v11 (andi : (⟨S16384, .i32⟩ : BufTy).Contents (Elt F) → (⟨S16384, .i32⟩ : BufTy).Contents (Elt F) → (⟨S16384, .i32⟩ : BufTy).Contents (Elt F)),
  StableHlo.unary main_v11 main_v12 (sitofp .f32 : (⟨S16384, .i32⟩ : BufTy).Contents (Elt F) → (⟨S16384, .f32⟩ : BufTy).Contents (Elt F)),
  StableHlo.reshape main_v12 main_v13 (rfl : (.f32 : EltTy) = .f32) shapeCasts_S16384_S16384x1,
  StableHlo.reshape main_v3 main_v14 (rfl : (.i32 : EltTy) = .i32) shapeCasts_S16384_S1x16384,
  StableHlo.reshape main_v5 main_v15 (rfl : (.i32 : EltTy) = .i32) shapeCasts_S16384_S1x16384]
def ops2 : List (HloOp τ sig (Elt F)) := [
  StableHlo.reshape main_arg5 main_v17 (rfl : (.f32 : EltTy) = .f32) shapeCasts_S128_S1x128,
  StableHlo.reshape main_arg7 main_v18 (rfl : (.f32 : EltTy) = .f32) shapeCasts_S64_S1x64,
  StableHlo.reshape main_arg9 main_v19 (rfl : (.f32 : EltTy) = .f32) shapeCasts_S128_S1x128,
  StableHlo.reshape main_arg11 main_v20 (rfl : (.f32 : EltTy) = .f32) shapeCasts_S64_S1x64]

/-- The host operations touch arrays of the host only. -/
theorem ops1_sub : ∀ op ∈ ops1 (F := F), op.bufs ⊆ Pipeline.ucRefs τ sig := fun op h =>
  Pipeline.sub_ucRefs op ((List.forall_iff_forall_mem.mp (show (ops1 (F := F)).Forall fun op => op.bufs ⊆ StableHlo.tcRefs τ sig from by
    simp [ops1, List.Forall])) op h)
/-- The host operations touch arrays of the host only. -/
theorem ops2_sub : ∀ op ∈ ops2 (F := F), op.bufs ⊆ Pipeline.ucRefs τ sig := fun op h =>
  Pipeline.sub_ucRefs op ((List.forall_iff_forall_mem.mp (show (ops2 (F := F)).Forall fun op => op.bufs ⊆ StableHlo.tcRefs τ sig from by
    simp [ops2, List.Forall])) op h)
/-- The host operations allocate nothing. -/
theorem ops1_fresh : ∀ op ∈ ops1 (F := F), op.fresh = ∅ := by
  intro _ h; (repeat (cases h with | head => rfl | tail _ h => ?_)); exact nomatch h
/-- The host operations allocate nothing. -/
theorem ops2_fresh : ∀ op ∈ ops2 (F := F), op.fresh = ∅ := by
  intro _ h; (repeat (cases h with | head => rfl | tail _ h => ?_)); exact nomatch h

/-- The main program in its four parts. -/
theorem main_eq (d : Dev nD) : main (F := F) d = (StableHlo.seq ops1 >>= fun _ => sc.run d 0 >>= fun _ => StableHlo.seq ops2 >>= fun _ =>
    (Prog.lift (.customCall (SparseCore.inner (Pipeline.entry 0)) ()) >>= fun _ => pure ⟨⟩)) := by
  simp only [main, ops1, ops2, StableHlo.seq, bind_assoc, pure_bind]

end Host

/-! ## The buffers along the main program -/

section Bufs
variable [FloatOps F] [∀ e, Nonempty (Elt F e)] (m : (ℓ : Loc nD τ sig) → Buf (Elt F) ℓ)

/-- A buffer of the main program as the device has it. -/
abbrev rf (b : Ref sig .tc) : DevRef τ sig := Proc.devRef .tc b

/-- The buffers when the gathers start. -/
def V1 (d : Dev nD) : Valuation τ sig (Elt F) := StableHlo.after ops1 (StableHlo.launchContents m d)

/-- The row numbers the gathers take are those of the reshaped tables. -/
def Small : Prop := ∀ d, (∀ j : S1x16384.Idx, (V1 m d (rf main_v14) j : BitVec 32).toNat < 500000) ∧ ∀ j : S1x16384.Idx, (V1 m d (rf main_v15) j : BitVec 32).toNat < 500000

/-- What the gathers start from. -/
def XX (hs : Small m) (d : Dev nD) : Ins F := ⟨V1 m d (rf main_v14), V1 m d (rf main_v15), V1 m d (rf main_v0), V1 m d (rf main_v1), (hs d).1, (hs d).2⟩

/-- The buffers after the gathers, -/
def V2 (d : Dev nD) : Valuation τ sig (Elt F) :=
  Function.update (Function.update (V1 m d) (rf main_v16_0) (gath (V1 m d (rf main_v14)) (V1 m d (rf main_v0)))) (rf main_v16_1)
    (gath (V1 m d (rf main_v15)) (V1 m d (rf main_v1)))
/-- when the towers start, -/
def V3 (d : Dev nD) : Valuation τ sig (Elt F) := StableHlo.after ops2 (V2 m d)
/-- and at the end. -/
def V4 (d : Dev nD) : Valuation τ sig (Elt F) := leaves (V3 m) d

/-- The buffers the gathers touch. -/
def six : Finset (DevRef τ sig) := {rf main_v14, rf main_v0, rf main_v16_0, rf main_v15, rf main_v1, rf main_v16_1}

/-- The six arrays of the SparseCore's call are among the host's. -/
theorem six_sub : six ⊆ Pipeline.ucRefs τ sig := by decide

/-- Holding the six arrays, one by one. -/
theorem held_six (d : Dev nD) (W : Valuation τ sig (Elt F)) : (StableHlo.held (d.tc : Thread nD τ) six W : sProp 𝕄)
    = iprop((at_ d main_v14 ↦{fullShare} W (rf main_v14)) ∗ (at_ d main_v0 ↦{fullShare} W (rf main_v0)) ∗ (at_ d main_v16_0 ↦{fullShare} W (rf main_v16_0))
      ∗ (at_ d main_v15 ↦{fullShare} W (rf main_v15)) ∗ (at_ d main_v1 ↦{fullShare} W (rf main_v1)) ∗ (at_ d main_v16_1 ↦{fullShare} W (rf main_v16_1))) := by
  unfold StableHlo.held six
  rw [SparseCore.bigSep_insert' (by decide), SparseCore.bigSep_insert' (by decide), SparseCore.bigSep_insert' (by decide), SparseCore.bigSep_insert' (by decide),
    SparseCore.bigSep_insert' (by decide), bigSep_singleton]

/-- The gathers' operands and results out of the main program's buffers, -/
theorem held_given (hs : Small m) (d : Dev nD) : (StableHlo.held (d.tc : Thread nD τ) (Pipeline.ucRefs τ sig) (V1 m d) : sProp 𝕄)
    ⊢ iprop(Given (XX m hs d) d ∗ StableHlo.held (d.tc : Thread nD τ) (Pipeline.ucRefs τ sig \ six) (V1 m d)) := by
  rw [StableHlo.held_sub_split _ six_sub, held_six]
  unfold Given
  iintro ⟨⟨H1, H2, H3, H4, H5, H6⟩, HR⟩
  isplitr [HR]
  · isplitl [H1 H2 H3]
    · isplitl [H1]; · iexact H1
      isplitl [H2]; · iexact H2
      iexists _; iexact H3
    · isplitl [H4]; · iexact H4
      isplitl [H5]; · iexact H5
      iexists _; iexact H6
  · iexact HR

/-- The SparseCore's call changes no array but its two results. -/
theorem V2_of_ne (d : Dev nD) {b : DevRef τ sig} (h0 : b ≠ rf main_v16_0) (h1 : b ≠ rf main_v16_1) : V2 m d b = V1 m d b := by
  unfold V2; rw [Function.update_of_ne h1, Function.update_of_ne h0]
/-- The call's result: the rows of the paired table that the halved row numbers name. -/
theorem V2_0 (d : Dev nD) : V2 m d (rf main_v16_0) = gath (V1 m d (rf main_v14)) (V1 m d (rf main_v0)) := by
  unfold V2; rw [Function.update_of_ne (by decide), Function.update_self]
/-- The call's result: the rows of the paired table that the halved row numbers name. -/
theorem V2_1 (d : Dev nD) : V2 m d (rf main_v16_1) = gath (V1 m d (rf main_v15)) (V1 m d (rf main_v1)) := by
  unfold V2; rw [Function.update_self]

/-- and back among them. -/
theorem got_held (hs : Small m) (d : Dev nD) : iprop(Got (XX m hs d) d ∗ StableHlo.held (d.tc : Thread nD τ) (Pipeline.ucRefs τ sig \ six) (V1 m d))
    ⊢ (StableHlo.held (d.tc : Thread nD τ) (Pipeline.ucRefs τ sig) (V2 m d) : sProp 𝕄) := by
  rw [StableHlo.held_sub_split _ six_sub (V2 m d), held_six, V2_0, V2_1, V2_of_ne m d (b := rf main_v14) (by decide) (by decide), V2_of_ne m d (b := rf main_v0) (by decide) (by decide),
    V2_of_ne m d (b := rf main_v15) (by decide) (by decide), V2_of_ne m d (b := rf main_v1) (by decide) (by decide),
    StableHlo.held_congr (d.tc : Thread nD τ) (S := Pipeline.ucRefs τ sig \ six) (V := V2 m d) (V' := V1 m d) fun b hb =>
      V2_of_ne m d (fun h => (Finset.mem_sdiff.mp hb).2 (h ▸ by decide)) (fun h => (Finset.mem_sdiff.mp hb).2 (h ▸ by decide))]
  unfold Got
  iintro ⟨⟨⟨H1, H2, H3⟩, H4, H5, H6⟩, HR⟩
  isplitr [HR]
  · isplitl [H1]; · iexact H1
    isplitl [H2]; · iexact H2
    isplitl [H3]; · iexact H3
    isplitl [H4]; · iexact H4
    isplitl [H5]; · iexact H5
    iexact H6
  · iexact HR

end Bufs

/-! ## The run of the main program -/

section Run
variable [FloatOps F] [∀ e, Nonempty (Elt F e)] (m : (ℓ : Loc nD τ sig) → Buf (Elt F) ℓ) (ρ : Dev nD → PrngReg) (hs : Small m)

/-- The launch's share of the towers' call: its cells' and its copies' tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The ghost state of the launch. -/
def u₀ : UU := (initOf (K (F := F)).hsCells (K (F := F)).hsToks, (initOf (Pipeline.cells cfgs cellOf_inj) (Pipeline.launchToks cfgs cellOf_inj), 1))

/-- A conjunction of nothings is nothing. -/
theorem emps {I : Type} (s : Finset I) : (bigSep s fun _ => iprop(emp)) = (iprop(emp) : sProp 𝕄) := bigSep_emp_const s

/-- The initial ghost state gives what the launch needs. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (XX m hs)).x q thr) := by
  have hf : (BI.own (((Emb.inl : Emb UP (UP × Counters)).trans embR) (initOf (Pipeline.cells cfgs cellOf_inj) (Pipeline.launchToks cfgs cellOf_inj))) : sProp 𝕄)
      ⊢ iprop(|==> ((bigSep Finset.univ fun c : Dev nD => bigSep Finset.univ fun p => Pipeline.cellsGhost (Pipeline.pin (pcfgs (F := F)) adm) EP p c)
        ∗ bigSep Finset.univ fun c : Dev nD => bigSep Finset.univ fun p => (Pipeline.toksInit (Pipeline.pin (pcfgs (F := F)) adm) EP p c : sProp 𝕄))) :=
    Pipeline.fund_ghost (nD := nD) (τ := τ) (Pipeline.pin (pcfgs (F := F)) adm) EP cellOf_inj
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HP⟩
  ihave H := (own_pair_emb embR (initOf (Pipeline.cells cfgs cellOf_inj) (Pipeline.launchToks cfgs cellOf_inj)) (1 : Counters)) $$ HP
  icases H with ⟨HP, -⟩
  ihave H := hf $$ HP
  imod H
  icases H with ⟨H1, H2⟩
  imodintro
  isplitl [HH]; · iexact HH
  isplitl [H1 H2]
  · unfold G
    rw [bigSep_sep' _ _ _]
    isplitl [H1]
    · iapply (Entails.of_eq (bigSep_congr fun d _ => (bigSep_univ_of_subsingleton (0 : Fin 1)))) $$ H1
    · iapply (Entails.of_eq (bigSep_congr fun d _ => (bigSep_univ_of_subsingleton (0 : Fin 1)))) $$ H2
  rw [show (bigSep Finset.univ fun thr : Thread nD τ => bigSep Finset.univ fun q : Fin 1 => (P (F := F) (XX m hs)).x q thr) = bigSep Finset.univ fun _ => iprop(emp) from
    bigSep_congr fun _ _ => bigSep_univ_of_subsingleton (0 : Fin 1), emps]
  iempintro

abbrev FIN (d : Dev nD) : sProp 𝕄 := StableHlo.held (d.tc : Thread nD τ) (Pipeline.ucRefs τ sig) (V4 m d)

/-- Over all the cores, what the call takes and returns, written out. -/
theorem st0_eq (d : Dev nD) : (bigSep Finset.univ fun c : Fin ((K (F := F)).nCore 0) => (P (XX m hs)).st 0 d c) = (overTiles fun i => Handed d i (XX m hs d) : sProp 𝕄) := by
  show (bigSep Finset.univ fun c => StS d (XX m hs) c) = _
  unfold StS overTiles; rfl
/-- Over all the cores, what the call takes and returns, written out. -/
theorem dn0_eq (d : Dev nD) : (bigSep Finset.univ fun c : Fin ((K (F := F)).nCore 0) => (P (XX m hs)).dn 0 d c) = (overTiles fun i => Back d i (XX m hs d) : sProp 𝕄) := by
  show (bigSep Finset.univ fun c => DnS d (XX m hs) c) = _
  unfold DnS overTiles; rfl

/-- What the TensorCore's region takes and leaves, written out. -/
theorem reg_pre (V : Dev nD → Valuation τ sig (Elt F)) (d : Dev nD) : (reg V).pre d = hostSt V d := by unfold reg; rfl
/-- What the TensorCore's region takes and leaves, written out. -/
theorem reg_post (V : Dev nD → Valuation τ sig (Elt F)) (d : Dev nD) : (reg V).post d = hostSt (leaves V) d := by unfold reg; rfl

/-- The towers' call on the main program's thread. -/
theorem towers_call (κ : GSem nD τ sig → ℕ) (d : Dev nD) (Q : PUnit → sProp 𝕄) :
    iprop((K (F := F)).ctx EH (P (XX m hs)) κ ∗ boundary (d.tc : Thread nD τ) ∗ hostSt (V3 m) d ∗ G (F := F) d
        ∗ (iprop(boundary (d.tc : Thread nD τ) ∗ hostSt (leaves (V3 m)) d) -∗ Q ⟨⟩))
      ⊢ wp frame (wpE ((K (F := F)).defs (D (F := F))) 𝒱 (SparseCore.T d) none) Set.univ (Prog.lift (.customCall (SparseCore.inner (Pipeline.entry 0)) ())) Q := by
  iintro ⟨#Hctx, Hb, Hst, ⟨HG1, HG2⟩, Hk⟩
  ihave Hlev := (SparseCore.Cfg.ctx_levAts κ) $$ Hctx
  iapply ((K (F := F)).wp_liftProg (D (F := F)) 𝒱 (d.tc : Thread nD τ) Set.univ none (.op (.customCall (Pipeline.entry 0) ()) .ret) Q)
  iapply ((reg (V3 m)).wp pcfgs adm (dats (V3 m)) none cellOf_inj EP defs₀ 𝒱₀ (K (F := F)).L (K (F := F)).lev d none (fun u hu => nomatch hu) .ret Q)
  isplitl [Hk]
  · iintro ⟨Hb, Hp⟩
    rw [wp_ret]; imodintro
    iapply Hk
    isplitl [Hb]; · iexact Hb
    iapply (Entails.of_eq (reg_post (V3 m) d)) $$ Hp
  isplitl [Hb]; · iexact Hb
  isplitl [Hst]; · iapply (Entails.of_eq (reg_pre (V3 m) d).symm) $$ Hst
  isplitl [Hlev]; · iexact Hlev
  isplitl [HG1]; · iexact HG1
  iexact HG2

/-- The main program, from the launch's buffers to the towers' scores. -/
theorem hmain (κ : GSem nD τ sig → ℕ) (d : Dev nD) :
    iprop((K (F := F)).ctx EH (P (XX m hs)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d : Thread nD τ).loc b)) : sProp 𝕄) = StableHlo.held (d.tc : Thread nD τ) (Pipeline.ucRefs τ sig) (StableHlo.launchContents m d)
    from Pipeline.unscopedBufs_held (Ix := HIx 1) (Name := ℕ) (U := UU) (Lvl := ℕ) d (StableHlo.launchContents m d)]
  iintro ⟨#Hctx, Hst, ⟨Hb, Hbufs, Hts, -⟩, HG⟩
  iapply (StableHlo.wp_seq (defs := (K (F := F)).defs (D (F := F))) 𝒱 none Set.univ d (Pipeline.ucRefs τ sig) _ ops1 ops1_sub ops1_fresh (StableHlo.launchContents m d)) $$ [Hb Hbufs]
  · isplitl [Hb] <;> iassumption
  iintro ⟨Hb, Hbufs⟩
  ihave H := (show (StableHlo.held (d.tc : Thread nD τ) (Pipeline.ucRefs τ sig) (StableHlo.after ops1 (StableHlo.launchContents m d)) : sProp 𝕄) ⊢ _ from held_given m hs d) $$ Hbufs
  icases H with ⟨Hgiven, Hrest⟩
  rw [wp_bind]
  iapply ((K (F := F)).wp_run (D (F := F)) 𝒱 (EH := EH) (P := P (XX m hs)) κ d 0)
  isplitr; · iexact Hctx
  isplitl [Hst]; · iexact Hst
  isplitl [Hgiven]
  · iapply (Entails.of_eq (st0_eq m hs d).symm)
    iapply (given_tiles (XX m hs d) d) $$ Hgiven
  iintro ⟨Hst, Hdn⟩
  ihave Hdn := (Entails.of_eq (dn0_eq m hs d)) $$ Hdn
  ihave Hgot := (tiles_got (XX m hs d) d) $$ Hdn
  ihave Hbufs := (got_held m hs d) $$ [Hgot Hrest]
  · isplitl [Hgot] <;> iassumption
  iapply (StableHlo.wp_seq (defs := (K (F := F)).defs (D (F := F))) 𝒱 none Set.univ d (Pipeline.ucRefs τ sig) _ ops2 ops2_sub ops2_fresh (V2 m d)) $$ [Hb Hbufs]
  · isplitl [Hb] <;> iassumption
  iintro ⟨Hb, Hbufs⟩
  rw [wp_bind]
  unfold SparseCore.Cfg.tcSt
  icases Hst with ⟨⟨%W, %hW, HO⟩, Htc⟩
  rw [(K (F := F)).Otc_end d (Nat.le_refl 1)]
  iapply (towers_call m hs κ d _)
  isplitr; · iexact Hctx
  isplitl [Hb]; · iexact Hb
  isplitl [Hbufs HO]
  · isplitl [Hbufs]
    · iapply (show (StableHlo.held (d.tc : Thread nD τ) (Pipeline.ucRefs τ sig) (StableHlo.after ops2 (V2 m d)) : sProp 𝕄) ⊢ StableHlo.held (d.tc : Thread nD τ) (Pipeline.ucRefs τ sig) (V3 m d) from .rfl) $$ Hbufs
    iexists W; isplitr
    · ipureintro; exact hW
    · iapply (show (owes (SparseCore.T d : Thread nD τ) ((K (F := F)).Otc d ((0 : Fin 1).val + 1)) W : sProp 𝕄) ⊢ owes (d.tc : Thread nD τ) 0 W from
        Entails.of_eq (congrArg (fun O => owes (d.tc : Thread nD τ) O W) ((K (F := F)).Otc_end d (Nat.le_refl 1)))) $$ HO
  isplitl [HG]; · iexact HG
  iintro ⟨Hb, Hbufs, %R, %hR, HO⟩
  rw [wp_pure]; imodintro
  isplitl [HO Htc]
  · isplitl [HO]
    · iexists R; isplitr
      · ipureintro; exact hR
      · iexact HO
    · iexact Htc
  isplitl [Hbufs]
  · iapply (show (StableHlo.held (d.tc : Thread nD τ) (Pipeline.ucRefs τ sig) (leaves (V3 m) d) : sProp 𝕄) ⊢ FIN m d from .rfl) $$ Hbufs
  isplitl [Hb] <;> iassumption

/-- Every buffer of the main program at the end. -/
def fq (d : Dev nD) (s' : Phys nD τ sig (Elt F)) : Prop := ∀ b ∈ Pipeline.ucRefs τ sig, s'.mem.mem (d, b) = V4 m d b

/-- Holding the arrays at the end says what the memory contains. -/
theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (Pipeline.ucRefs τ sig) (fun b => ((d.tc : Thread nD τ).1, b)) (V4 m d) s') $$ [Hh HSI]
  · isplitl [Hh] <;> iassumption
  icases Hr with ⟨%h, -⟩
  ipureintro; exact h

def QC : PUnit × MemSt nD τ sig (Elt F) → Prop := fun r => (∀ c : Dev nD, ∀ b ∈ Pipeline.ucRefs τ sig, r.2.mem (c, b) = V4 m c b) ∧ r.2.sem = fun _ => 0

include hs in
/-- The program's run: every buffer of the main program ends as computed, the semaphores at zero. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XX m hs)) (A := ∅) facts v₀
    (fun q hq => match q with | 0 => nomatch hq)
    (fun q _ => match q with | 0 => tileObl (XX m hs))
    (fun q _ => match q with | 0 => SparseCore.Cfg.VecSplit.of_plain (vecSplit (XX m hs)))
    m ρ main (fun d => G (F := F) d) (FIN m) (u₀ (F := F)) (sep_elim_left.trans (hu₀ m hs)) (hmain m ρ hs) (fq m) (hfin m) (QC m) (fun _ h hz => ⟨h, hz⟩)

end Run
end Cert.Proof.Tw
-- ==== Proof.Ends.lean ====
/-
  What the main program's buffers hold: its arguments, and the arrays the gathers and the towers read.
-/
module

public import proofs.«01_k».proof.Proof.Main
public import Idealize.ShloMosaic.Lib.StableHlo.RunRead
public import Idealize.ShloMosaic.Lib.Pipeline.RegionArraysS

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable [FloatOps F] [∀ e, Nonempty (Elt F e)] (m : (ℓ : Loc nD τ sig) → Buf (Elt F) ℓ)

/-- The contents of a buffer at the launch. -/
abbrev at0 (d : Dev nD) (b : Ref sig .tc) : Buf (Elt F) ((d.tc : Thread nD τ).loc b) := m ((d.tc : Thread nD τ).loc b)

/-! ## Before the gathers -/

section First
set_option maxRecDepth 8192
/-- After the host's first operations this array is the table, viewed as rows of 128. -/
theorem V1_v0 (d : Dev nD) : V1 m d (rf main_v0) = shapeCast S500000x128 (at0 m d main_arg2) shapeCasts_S1000000x64_S500000x128 := by
  unfold V1 ops1; after_results_simp <;> rfl
/-- After the host's first operations this array is the table, viewed as rows of 128. -/
theorem V1_v1 (d : Dev nD) : V1 m d (rf main_v1) = shapeCast S500000x128 (at0 m d main_arg3) shapeCasts_S1000000x64_S500000x128 := by
  unfold V1 ops1; after_results_simp <;> rfl
/-- After the host's first operations this array is the row numbers, halved. -/
theorem V1_v14 (d : Dev nD) : V1 m d (rf main_v14)
    = shapeCast S1x16384 (Host.shrui (at0 m d main_arg0) (broadcastInDim S16384 ![] bcast_S_S16384 (constantI S_ 32 1#32))) shapeCasts_S16384_S1x16384 := by
  unfold V1 ops1; after_results_simp <;> rfl
/-- After the host's first operations this array is the row numbers, halved. -/
theorem V1_v15 (d : Dev nD) : V1 m d (rf main_v15)
    = shapeCast S1x16384 (Host.shrui (at0 m d main_arg1) (broadcastInDim S16384 ![] bcast_S_S16384 (constantI S_ 32 1#32))) shapeCasts_S16384_S1x16384 := by
  unfold V1 ops1; after_results_simp <;> rfl
/-- After the host's first operations this array is the row numbers' last bits, as floats. -/
theorem V1_v9 (d : Dev nD) : V1 m d (rf main_v9)
    = shapeCast S16384x1 (sitofp .f32 (andi (at0 m d main_arg0) (broadcastInDim S16384 ![] bcast_S_S16384 (constantI S_ 32 1#32))) : FVec F S16384 .f32) shapeCasts_S16384_S16384x1 := by
  unfold V1 ops1; after_results_simp <;> rfl
/-- After the host's first operations this array is the row numbers' last bits, as floats. -/
theorem V1_v13 (d : Dev nD) : V1 m d (rf main_v13)
    = shapeCast S16384x1 (sitofp .f32 (andi (at0 m d main_arg1) (broadcastInDim S16384 ![] bcast_S_S16384 (constantI S_ 32 1#32))) : FVec F S16384 .f32) shapeCasts_S16384_S16384x1 := by
  unfold V1 ops1; after_results_simp <;> rfl
end First

/-- The main program's arguments. -/
def args : List (Ref sig .tc) := [main_arg0, main_arg1, main_arg2, main_arg3, main_arg4, main_arg5, main_arg6, main_arg7, main_arg8, main_arg9, main_arg10, main_arg11]
/-- What the host's operations write. -/
def wr1 : List (Ref sig .tc) := [main_v0, main_v1, main_c, main_v2, main_v3, main_c_0, main_v4, main_v5, main_c_1, main_v6, main_v7, main_v8, main_v9, main_c_2, main_v10, main_v11, main_v12, main_v13, main_v14, main_v15]
def wr2 : List (Ref sig .tc) := [main_v17, main_v18, main_v19, main_v20]

/-- The host operations write the listed arrays only. -/
theorem ops1_wr : (ops1 (F := F)).Forall fun op => op.writes ⊆ (wr1.map (Proc.devRef (τ := τ) .tc)).toFinset := by
  simp [ops1, wr1, List.Forall]
/-- The host operations write the listed arrays only. -/
theorem ops2_wr : (ops2 (F := F)).Forall fun op => op.writes ⊆ (wr2.map (Proc.devRef (τ := τ) .tc)).toFinset := by
  simp [ops2, wr2, List.Forall]

/-- An argument is still as it was at the start. -/
theorem V1_arg (d : Dev nD) {b : Ref sig .tc} (hb : b ∈ args) : V1 m d (rf b) = at0 m d b :=
  StableHlo.after_of_writes_sub ops1 _ ops1_wr (by revert b; decide)

/-- A buffer that neither the gathers nor the operations after them write. -/
theorem V3_of (d : Dev nD) {b : Ref sig .tc} (h2 : b ∉ wr2) (h0 : b ≠ main_v16_0) (h1 : b ≠ main_v16_1) : V3 m d (rf b) = V1 m d (rf b) :=
  (StableHlo.after_of_writes_sub ops2 _ ops2_wr h2).trans
    (V2_of_ne m d (fun e => h0 (Proc.devRef_injective _ e)) (fun e => h1 (Proc.devRef_injective _ e)))

/-- An argument is still as it was at the start. -/
theorem V3_arg (d : Dev nD) {b : Ref sig .tc} (hb : b ∈ args) : V3 m d (rf b) = at0 m d b :=
  (V3_of m d (by revert b; decide) (by revert b; decide) (by revert b; decide)).trans (V1_arg m d hb)

/-- The arguments end as they began. -/
theorem V4_arg (d : Dev nD) {b : Ref sig .tc} (hb : b ∈ args) : V4 m d (rf b) = at0 m d b := by
  refine (Pipeline.afterRegion_keeps (dat (V3 m) d) (V3 m d) (by decide) (fun _ => rfl) b ?_).trans (V3_arg m d hb)
  revert b; decide

/-! ## The row numbers -/

/-- The row numbers name rows of the tables. -/
def Ids : Prop := ∀ d, (∀ j : S16384.Idx, (at0 m d main_arg0 j : BitVec 32).toNat < 1000000) ∧ ∀ j : S16384.Idx, (at0 m d main_arg1 j : BitVec 32).toNat < 1000000

/-- Shifting such a number right by one halves it, -/
theorem shr_one (v : BitVec 32) : (IntOp.shrui .host v 1#32).toNat = v.toNat / 2 := by
  unfold IntOp.shrui
  rw [if_pos (by decide)]
  simp [BitVec.toNat_ushiftRight, Nat.shiftRight_eq_div_pow]

/-- so it is below half a million. -/
theorem half {v : BitVec 32} (h : v.toNat < 1000000) : (IntOp.shrui .host v 1#32).toNat < 500000 := by
  rw [shr_one]; omega

/-- With every row number in range, every halved one names a row of the paired table. -/
theorem small (h : Ids m) : Small m := by
  intro d
  refine ⟨fun j => ?_, fun j => ?_⟩
  · rw [V1_v14]; exact half ((h d).1 _)
  · rw [V1_v15]; exact half ((h d).2 _)

/-- The frame: every argument ends as it began, and the semaphores at zero. -/
theorem frame (h : Ids m) (ρ : Dev nD → PrngReg) :
    θ_run (Cert.KernelIdeal.defs (F := F)) (Cert.KernelIdeal.threads (F := F)) ⟨m, fun _ => 0, ρ⟩
      fun r => (∀ c : Dev nD, ∀ b ∈ args, r.2.mem ((c.tc : Thread nD τ).loc b) = m ((c.tc : Thread nD τ).loc b))
        ∧ (∀ c : Dev nD, r.2.mem ((c.tc : Thread nD τ).loc main_v21) = V4 m c (rf main_v21)) ∧ r.2.sem = fun _ => 0 :=
  (θ_run Cert.KernelIdeal.defs _ _).mono
    (fun r hr => ⟨fun c b hb => (hr.1 c (rf b) (Pipeline.devRef_mem_ucRefs (by revert b; decide))).trans (V4_arg m c hb),
      fun c => hr.1 c (rf main_v21) (Pipeline.devRef_mem_ucRefs (by decide)), hr.2⟩)
    (run_main m ρ (small m h))

end Cert.Proof.Tw
-- ==== Proof.Pre.lean ====
/-
  What the precondition says of the arguments: the row numbers are in range, and every entry of the tables is finite.
-/
module

public import proofs.«01_k».proof.Pre_ids_in_range_and_tables_finite
public import proofs.«01_k».proof.Proof.Gen.Pre_ids_in_range_and_tables_finite
public import Idealize.ShloMosaic.Lib.ReduceAll

@[expose] public section

noncomputable section

namespace Cert.Proof.Tw

open Idealize.ShloMosaic
open Cert.Pre_ids_in_range_and_tables_finite Cert.Pre_ids_in_range_and_tables_finite.Gen

/-- The conjunction of two one-bit words is one exactly when both are. -/
theorem andi_one {a b : BitVec 1} (h : IntOp.andi a b = 1#1) : a = 1#1 ∧ b = 1#1 := by
  revert a b; decide

/-- A word that is at least zero and below a million as a signed number is below a million. -/
theorem id_small {v : BitVec 32} (h0 : IntOp.cmpi .sge v 0#32 = 1#1) (h1 : IntOp.cmpi .slt v 1000000#32 = 1#1) : v.toNat < 1000000 := by
  have e (p : Bool) : (BitVec.ofBool p = 1#1) ↔ p = true := by cases p <;> decide
  simp only [IntOp.cmpi, e, BitVec.sle_eq_decide, BitVec.slt_eq_decide, decide_eq_true_eq, BitVec.toInt_eq_toNat_cond,
    BitVec.toNat_ofNat, Nat.reducePow, Nat.reduceMod] at h0 h1
  omega

variable {F : FTy → Type} [FloatOps F]

/-- Every entry of a table compares below infinity in absolute value. -/
def Below (x : FVec F S1000000x64 .f32) : Prop :=
  ∀ i, cmpf .olt (Host.absf x) (broadcastInDim S1000000x64 ![] Facts.bcast_S_S1000000x64 (constant S_ .f32 0x7F800000#32 : FVec F S_ .f32)) i = 1#1

/-- The precondition, read entry by entry. -/
theorem of_pre {a0 a1 : IVec S16384 32} {a2 a3 : FVec F S1000000x64 .f32} {a4 : FVec F S64x128 .f32} {a5 : FVec F S128 .f32} {a6 : FVec F S128x64 .f32}
    {a7 : FVec F S64 .f32} {a8 : FVec F S64x128 .f32} {a9 : FVec F S128 .f32} {a10 : FVec F S128x64 .f32} {a11 : FVec F S64 .f32}
    (h : Cert.Pre_ids_in_range_and_tables_finite.fn (F := F) a0 a1 a2 a3 a4 a5 a6 a7 a8 a9 a10 a11 = fun _ => 1#1) :
    (∀ j, (a0 j).toNat < 1000000) ∧ (∀ j, (a1 j).toNat < 1000000) ∧ Below a2 ∧ Below a3 := by
  have e := congrFun h (Shape.Idx.first Facts.h_S_)
  dsimp only [fn, fn_part1, andi] at e
  obtain ⟨e, h3⟩ := andi_one e
  obtain ⟨e, h2⟩ := andi_one e
  obtain ⟨e, hd⟩ := andi_one e
  obtain ⟨e, hc⟩ := andi_one e
  obtain ⟨ha, hb⟩ := andi_one e
  have hS : Subsingleton S_.Idx := ⟨fun a b => funext fun i => i.elim0⟩
  exact ⟨fun j => id_small (Host.reduce_andi_all _ _ _ _ _ ha j) (Host.reduce_andi_all _ _ _ _ _ hb j),
    fun j => id_small (Host.reduce_andi_all _ _ _ _ _ hc j) (Host.reduce_andi_all _ _ _ _ _ hd j),
    fun i => Host.reduce_andi_all _ _ _ _ _ h2 i, fun i => Host.reduce_andi_all _ _ _ _ _ h3 i⟩

end Cert.Proof.Tw
-- ==== Proof.PreIds.lean ====
/-
  What the weaker precondition says of the arguments, the one that the frames need: the row numbers are in range.
-/
module

public import proofs.«01_k».proof.Pre_ids_in_range
public import proofs.«01_k».proof.Proof.Pre

@[expose] public section

noncomputable section

namespace Cert.Proof.Pi

open Idealize.ShloMosaic
open Cert.Pre_ids_in_range

/-- The side conditions of the precondition's own operations. -/
instance facts : Cert.Pre_ids_in_range.Facts where
  bcast_S_S16384 := by decide
  reducesTo_S16384_S_d0 := by decide
  h_S_ := by decide

variable {F : FTy → Type} [FloatOps F]

/-- The precondition, read entry by entry: every row number, as a natural number, is below a million. -/
theorem of_pre {a0 a1 : IVec S16384 32} {a2 a3 : FVec F S1000000x64 .f32} {a4 : FVec F S64x128 .f32} {a5 : FVec F S128 .f32} {a6 : FVec F S128x64 .f32}
    {a7 : FVec F S64 .f32} {a8 : FVec F S64x128 .f32} {a9 : FVec F S128 .f32} {a10 : FVec F S128x64 .f32} {a11 : FVec F S64 .f32}
    (h : Cert.Pre_ids_in_range.fn (F := F) a0 a1 a2 a3 a4 a5 a6 a7 a8 a9 a10 a11 = fun _ => 1#1) :
    (∀ j, (a0 j).toNat < 1000000) ∧ (∀ j, (a1 j).toNat < 1000000) := by
  have e := congrFun h (Shape.Idx.first Facts.h_S_)
  dsimp only [fn, andi] at e
  obtain ⟨e, hd⟩ := Tw.andi_one e
  obtain ⟨e, hc⟩ := Tw.andi_one e
  obtain ⟨ha, hb⟩ := Tw.andi_one e
  have hS : Subsingleton S_.Idx := ⟨fun a b => funext fun i => i.elim0⟩
  exact ⟨fun j => Tw.id_small (Host.reduce_andi_all _ _ _ _ _ ha j) (Host.reduce_andi_all _ _ _ _ _ hb j),
    fun j => Tw.id_small (Host.reduce_andi_all _ _ _ _ _ hc j) (Host.reduce_andi_all _ _ _ _ _ hd j)⟩

end Cert.Proof.Pi

end
-- ==== Proof.Twin.lean ====
/-
  The kernel as printed and the kernel as idealized are one program: no operation was rewritten.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Proof.Tw

open Idealize.ShloMosaic

variable {F : FTy → Type} [FloatOps F]

set_option maxHeartbeats 2000000 in
/-- The kernels' bodies are the same, label by label, -/
theorem defs₀_eq : (Cert.Kernel.defs₀ (F := F)) = Cert.KernelIdeal.defs₀ (F := F) := by
  funext p ℓ a
  match p, ℓ with
  | .scVector c s, 0 => rfl
  | .scVector c s, 1 => rfl
  | .scScalar c, 0 => rfl
  | .scScalar c, 1 => rfl
  | .tc, 0 => rfl
  | .tc, 1 => rfl

/-- so are the body tables, -/
theorem defs_eq : (Cert.Kernel.defs (F := F)) = Cert.KernelIdeal.defs (F := F) := by
  unfold Cert.Kernel.defs Cert.KernelIdeal.defs
  exact congrArg (fun D => Cert.KernelIdeal.sc.defs (Pipeline.defs Cert.KernelIdeal.pcfgs D)) defs₀_eq

/-- and the threads. -/
theorem threads_eq : (Cert.Kernel.threads (F := F)) = Cert.KernelIdeal.threads (F := F) := rfl

end Cert.Proof.Tw
-- ==== Proof.Scores.lean ====
/-
  The scores as sums over the extended reals: what both programs compute of a pair of rows.
-/
module

public import proofs.«01_k».proof.Proof.Towers
public import Idealize.ShloMosaic.Lib.Pointwise

@[expose] public section

noncomputable section

namespace Cert.Proof.Tw

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## A tower and a score -/

/-- The output of a tower: a layer of 128 units cut off at zero, then one of 64. -/
def dense (x : Fin 64 → EReal) (W : Fin 64 → Fin 128 → EReal) (b : Fin 128 → EReal) (W' : Fin 128 → Fin 64 → EReal) (b' : Fin 64 → EReal) (k : Fin 64) : EReal :=
  (∑ a : Fin 128, max ((∑ c : Fin 64, x c * W c a) + b a) 0 * W' a k) + b' k

/-- A vector divided by its length, or by the least length allowed. -/
def unit (y : Fin 64 → EReal) (k : Fin 64) : EReal :=
  Ideal.div (y k) (max (Ideal.sqrt (∑ k' : Fin 64, y k' * y k')) (Ideal.ofBits .f32 0x2B8CBCCC#32))

/-- The inner product of two such vectors. -/
def score (y z : Fin 64 → EReal) : EReal := ∑ k : Fin 64, unit y k * unit z k

/-- The half of a double row that a parity chooses. -/
def pick (x : Fin 128 → EReal) (p : EReal) (c : Fin 64) : EReal :=
  x ⟨c.1, by omega⟩ + p * (x ⟨64 + c.1, by omega⟩ - x ⟨c.1, by omega⟩)

/-- The user tower of a block, at a row and a column. -/
theorem pay2_apply (Y1 : Vec Ideal S2048x128 .f32) (Y3 : Vec Ideal S2048x1 .f32) (Y5 : Vec Ideal S64x128 .f32) (Y6 : Vec Ideal S1x128 .f32)
    (Y7 : Vec Ideal S128x64 .f32) (Y8 : Vec Ideal S1x64 .f32) (r : Fin 2048) (k : Fin 64) :
    k1_pay2 Y1 Y3 Y5 Y6 Y7 Y8 (ix2 r k)
      = unit (dense (pick (fun c => Y1 (ix2 r c)) (Y3 (ix2 r 0))) (fun c a => Y5 (ix2 c a)) (fun a => Y6 (ix2 0 a)) (fun a k => Y7 (ix2 a k)) (fun k => Y8 (ix2 0 k))) k := by
  pointwise [k1_pay2]
  rfl

/-- The scores of a block, at a row. -/
theorem tow_apply (Y1 Y2 : Vec Ideal S2048x128 .f32) (Y3 Y4 : Vec Ideal S2048x1 .f32) (Y5 : Vec Ideal S64x128 .f32) (Y6 : Vec Ideal S1x128 .f32)
    (Y7 : Vec Ideal S128x64 .f32) (Y8 : Vec Ideal S1x64 .f32) (Y9 : Vec Ideal S64x128 .f32) (Y10 : Vec Ideal S1x128 .f32)
    (Y11 : Vec Ideal S128x64 .f32) (Y12 : Vec Ideal S1x64 .f32) (r : Fin 2048) :
    tow Y1 Y2 Y3 Y4 Y5 Y6 Y7 Y8 Y9 Y10 Y11 Y12 (ix1 r)
      = score (dense (pick (fun c => Y1 (ix2 r c)) (Y3 (ix2 r 0))) (fun c a => Y5 (ix2 c a)) (fun a => Y6 (ix2 0 a)) (fun a k => Y7 (ix2 a k)) (fun k => Y8 (ix2 0 k)))
          (dense (pick (fun c => Y2 (ix2 r c)) (Y4 (ix2 r 0))) (fun c a => Y9 (ix2 c a)) (fun a => Y10 (ix2 0 a)) (fun a k => Y11 (ix2 a k)) (fun k => Y12 (ix2 0 k))) := by
  unfold tow score
  simp only [← pay2_apply]
  pointwise [k1_pay1, k1_pay2, k1_pay3, k1_pay4]

end Cert.Proof.Tw
-- ==== Proof.Value.lean ====
/-
  What the kernel leaves in its result, as sums over the extended reals.
-/
module

public import proofs.«01_k».proof.Proof.Scores
public import proofs.«01_k».proof.Proof.Ends
public import Idealize.ShloMosaic.Lib.Pointwise
public import Idealize.ShloMosaic.Lib.Pipeline.ValueKit

@[expose] public section

noncomputable section

namespace Cert.Proof.Vl

open Cert.KernelIdeal Cert.KernelIdeal.Gen

open Idealize.ShloMosaic
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Tw hiding ix2
set_option maxRecDepth 16384

/-! ## The result, row by row -/

section Rows
variable (V : Dev nD → Valuation τ sig (Elt Ideal)) (d : Dev nD)

/-- Which block of its array each operand's window shows at a step. -/
theorem index (t : Fin cfg1.N) : (cfg1.win 0).index t = ![t.1, 0] ∧ (cfg1.win 1).index t = ![t.1, 0] ∧ (cfg1.win 2).index t = ![t.1, 0] ∧ (cfg1.win 3).index t = ![t.1, 0]
    ∧ (cfg1.win 4).index t = ![0, 0] ∧ (cfg1.win 5).index t = ![0, 0] ∧ (cfg1.win 6).index t = ![0, 0] ∧ (cfg1.win 7).index t = ![0, 0]
    ∧ (cfg1.win 8).index t = ![0, 0] ∧ (cfg1.win 9).index t = ![0, 0] ∧ (cfg1.win 10).index t = ![0, 0] ∧ (cfg1.win 11).index t = ![0, 0]
    ∧ (cfg1.win 12).index t = ![t.1] := by
  revert t; decide +kernel

/-- The row of the arrays that a block's row is. -/
def rowOf (t : Fin cfg1.N) (r : Fin 2048) : Fin 16384 := ⟨2048 * t.1 + r.1, by have h : t.1 < 8 := t.2; omega⟩

/-! Each operand's block, read in its array. -/

/-- What step `t` of the towers' pipeline holds of the gathered user rows. -/
theorem blk0 (t : Fin cfg1.N) (r : Fin 2048) (c : Fin 128) : blkOf V d 0 t (ix2 r c) = V d (rf main_v16_0) (ix2 (rowOf t r) c) := by
  show V d (rf main_v16_0) (((cfg1.win 0).blk t).view.emb (ix2 r c)) = _
  refine congrArg (V d (rf main_v16_0)) ?_
  blk_ext [(index t).1, rowOf]
/-- What step `t` of the towers' pipeline holds of the gathered item rows. -/
theorem blk1 (t : Fin cfg1.N) (r : Fin 2048) (c : Fin 128) : blkOf V d 1 t (ix2 r c) = V d (rf main_v16_1) (ix2 (rowOf t r) c) := by
  show V d (rf main_v16_1) (((cfg1.win 1).blk t).view.emb (ix2 r c)) = _
  refine congrArg (V d (rf main_v16_1)) ?_
  blk_ext [(index t).2.1, rowOf]
/-- What step `t` of the towers' pipeline holds of the users' last bits. -/
theorem blk2 (t : Fin cfg1.N) (r : Fin 2048) : blkOf V d 2 t (ix2 r (0 : Fin 1)) = V d (rf main_v9) (ix2 (rowOf t r) 0) := by
  show V d (rf main_v9) (((cfg1.win 2).blk t).view.emb (ix2 r (0 : Fin 1))) = _
  refine congrArg (V d (rf main_v9)) ?_
  blk_ext [(index t).2.2.1, rowOf]
/-- What step `t` of the towers' pipeline holds of the items' last bits. -/
theorem blk3 (t : Fin cfg1.N) (r : Fin 2048) : blkOf V d 3 t (ix2 r (0 : Fin 1)) = V d (rf main_v13) (ix2 (rowOf t r) 0) := by
  show V d (rf main_v13) (((cfg1.win 3).blk t).view.emb (ix2 r (0 : Fin 1))) = _
  refine congrArg (V d (rf main_v13)) ?_
  blk_ext [(index t).2.2.2.1, rowOf]
/-- What step `t` of the towers' pipeline holds of the user tower's first weights. -/
theorem blk4 (t : Fin cfg1.N) (c : Fin 64) (a : Fin 128) : blkOf V d 4 t (ix2 c a) = V d (rf main_arg4) (ix2 c a) := by
  show V d (rf main_arg4) (((cfg1.win 4).blk t).view.emb (ix2 c a)) = _
  refine congrArg (V d (rf main_arg4)) ?_
  blk_ext [(index t).2.2.2.2.1]
/-- What step `t` of the towers' pipeline holds of the user tower's first bias. -/
theorem blk5 (t : Fin cfg1.N) (a : Fin 128) : blkOf V d 5 t (ix2 (0 : Fin 1) a) = V d (rf main_v17) (ix2 0 a) := by
  show V d (rf main_v17) (((cfg1.win 5).blk t).view.emb (ix2 (0 : Fin 1) a)) = _
  refine congrArg (V d (rf main_v17)) ?_
  blk_ext [(index t).2.2.2.2.2.1]
/-- What step `t` of the towers' pipeline holds of the user tower's second weights. -/
theorem blk6 (t : Fin cfg1.N) (c : Fin 128) (a : Fin 64) : blkOf V d 6 t (ix2 c a) = V d (rf main_arg6) (ix2 c a) := by
  show V d (rf main_arg6) (((cfg1.win 6).blk t).view.emb (ix2 c a)) = _
  refine congrArg (V d (rf main_arg6)) ?_
  blk_ext [(index t).2.2.2.2.2.2.1]
/-- What step `t` of the towers' pipeline holds of the user tower's second bias. -/
theorem blk7 (t : Fin cfg1.N) (a : Fin 64) : blkOf V d 7 t (ix2 (0 : Fin 1) a) = V d (rf main_v18) (ix2 0 a) := by
  show V d (rf main_v18) (((cfg1.win 7).blk t).view.emb (ix2 (0 : Fin 1) a)) = _
  refine congrArg (V d (rf main_v18)) ?_
  blk_ext [(index t).2.2.2.2.2.2.2.1]
/-- What step `t` of the towers' pipeline holds of the item tower's first weights. -/
theorem blk8 (t : Fin cfg1.N) (c : Fin 64) (a : Fin 128) : blkOf V d 8 t (ix2 c a) = V d (rf main_arg8) (ix2 c a) := by
  show V d (rf main_arg8) (((cfg1.win 8).blk t).view.emb (ix2 c a)) = _
  refine congrArg (V d (rf main_arg8)) ?_
  blk_ext [(index t).2.2.2.2.2.2.2.2.1]
/-- What step `t` of the towers' pipeline holds of the item tower's first bias. -/
theorem blk9 (t : Fin cfg1.N) (a : Fin 128) : blkOf V d 9 t (ix2 (0 : Fin 1) a) = V d (rf main_v19) (ix2 0 a) := by
  show V d (rf main_v19) (((cfg1.win 9).blk t).view.emb (ix2 (0 : Fin 1) a)) = _
  refine congrArg (V d (rf main_v19)) ?_
  blk_ext [(index t).2.2.2.2.2.2.2.2.2.1]
/-- What step `t` of the towers' pipeline holds of the item tower's second weights. -/
theorem blk10 (t : Fin cfg1.N) (c : Fin 128) (a : Fin 64) : blkOf V d 10 t (ix2 c a) = V d (rf main_arg10) (ix2 c a) := by
  show V d (rf main_arg10) (((cfg1.win 10).blk t).view.emb (ix2 c a)) = _
  refine congrArg (V d (rf main_arg10)) ?_
  blk_ext [(index t).2.2.2.2.2.2.2.2.2.2.1]
/-- What step `t` of the towers' pipeline holds of the item tower's second bias. -/
theorem blk11 (t : Fin cfg1.N) (a : Fin 64) : blkOf V d 11 t (ix2 (0 : Fin 1) a) = V d (rf main_v20) (ix2 0 a) := by
  show V d (rf main_v20) (((cfg1.win 11).blk t).view.emb (ix2 (0 : Fin 1) a)) = _
  refine congrArg (V d (rf main_v20)) ?_
  blk_ext [(index t).2.2.2.2.2.2.2.2.2.2.2.1]

/-- The score of row `j`, from the arrays the call is given. -/
def scoreOf (j : Fin 16384) : EReal :=
  score
    (dense (pick (fun c => V d (rf main_v16_0) (ix2 j c)) (V d (rf main_v9) (ix2 j 0))) (fun c a => V d (rf main_arg4) (ix2 c a)) (fun a => V d (rf main_v17) (ix2 0 a))
      (fun a k => V d (rf main_arg6) (ix2 a k)) (fun k => V d (rf main_v18) (ix2 0 k)))
    (dense (pick (fun c => V d (rf main_v16_1) (ix2 j c)) (V d (rf main_v13) (ix2 j 0))) (fun c a => V d (rf main_arg8) (ix2 c a)) (fun a => V d (rf main_v19) (ix2 0 a))
      (fun a k => V d (rf main_arg10) (ix2 a k)) (fun k => V d (rf main_v20) (ix2 0 k)))

/-- A step's scores are those of its rows. -/
theorem towOf_apply (t : Fin cfg1.N) (r : Fin 2048) : towOf V d t (ix1 r) = scoreOf V d (rowOf t r) := by
  unfold towOf scoreOf
  refine (tow_apply _ _ _ _ _ _ _ _ _ _ _ _ r).trans ?_
  simp only [blk0, blk1, blk2, blk3, blk4, blk5, blk6, blk7, blk8, blk9, blk10, blk11]

/-- After the call the result holds every row's score. -/
theorem arrAt_out : (dat V d).arrAt 12 cfg1.N = (fun j : S16384.Idx => scoreOf V d (j 0)) := by
  refine (dat V d).arrAt_eq_of_covers 12 _ (by decide +kernel) fun t hf y => ?_
  have e := towOf_apply V d t (y 0)
  blk_simp
  rw [show y = ix1 (y 0) from eq_ix1 y]
  refine e.trans (congrArg (scoreOf V d) (Fin.ext ?_))
  show 2048 * t.1 + (y 0).1 = _
  blk_simp [(index t).2.2.2.2.2.2.2.2.2.2.2.2]
  omega

end Rows

/-! ## A row of a table -/

/-- A row number's parity as a number. -/
theorem parity (v : BitVec 32) : (FloatOps.sitofp .f32 (IntOp.andi v 1#32) : Ideal .f32) = if v.toNat % 2 = 0 then (0 : EReal) else 1 := by
  have e : (IntOp.andi v 1#32).toInt = ((v.toNat % 2 : ℕ) : ℤ) := by
    show (v &&& 1#32).toInt = _
    rw [BitVec.toInt_eq_toNat_cond, BitVec.toNat_and, show (1#32).toNat = 1 from rfl, Nat.and_one_is_mod, if_pos (by omega)]
  show (((IntOp.andi v 1#32).toInt : ℝ) : EReal) = _
  rw [e]
  rcases Nat.mod_two_eq_zero_or_one v.toNat with h | h <;> simp [h]

/-- Between two finite numbers, the second weighted with one. -/
theorem weigh (a b : EReal) (h : a ≠ ⊤) (h' : a ≠ ⊥) : a + 1 * (b - a) = b := by
  lift a to ℝ using ⟨h, h'⟩
  rw [one_mul, add_comm, EReal.sub_add_cancel]

/-- The chosen half of a double row is the row numbered `v`. -/
theorem pick_row (t : FVec Ideal S1000000x64 .f32) (v : BitVec 32) (h : v.toNat < 1000000) (fin : ∀ i, t i ≠ (⊤ : EReal) ∧ t i ≠ (⊥ : EReal)) (c : Fin 64) :
    pick (fun c => shapeCast S500000x128 t shapeCasts_S1000000x64_S500000x128 (ix2 ⟨v.toNat / 2, by omega⟩ c)) (FloatOps.sitofp .f32 (IntOp.andi v 1#32) : Ideal .f32) c
      = t (ix2 ⟨v.toNat, h⟩ c) := by
  unfold pick
  rw [parity]
  split
  · pointwise
    rw [zero_mul, add_zero]
    exact congrArg t (by congr 1 <;> exact Fin.ext (by simp only []; omega))
  · rw [weigh]
    · pointwise
      exact congrArg t (by congr 1; exact Fin.ext (by simp only []; omega))
    · pointwise
      exact (fin _).1
    · pointwise
      exact (fin _).2

/-! ## From the arguments -/

section Args
variable (m : (ℓ : Loc nD τ sig) → Buf (Elt Ideal) ℓ) (d : Dev nD)

/-- An argument is still as it was at the start. -/
theorem V2_arg {b : Ref sig .tc} (hb : b ∈ args) : V2 m d (rf b) = at0 m d b :=
  (V2_of_ne m d (fun e => absurd (Proc.devRef_injective _ e) (by revert b; decide)) (fun e => absurd (Proc.devRef_injective _ e) (by revert b; decide))).trans (V1_arg m d hb)

/-- The bias as the region takes it: the argument, as one row. -/
theorem V3_v17 : V3 m d (rf main_v17) = shapeCast S1x128 (at0 m d main_arg5) shapeCasts_S128_S1x128 := by
  rw [← V2_arg m d (b := main_arg5) (by decide)]; unfold V3 ops2; after_results_simp <;> rfl
/-- The bias as the region takes it: the argument, as one row. -/
theorem V3_v18 : V3 m d (rf main_v18) = shapeCast S1x64 (at0 m d main_arg7) shapeCasts_S64_S1x64 := by
  rw [← V2_arg m d (b := main_arg7) (by decide)]; unfold V3 ops2; after_results_simp <;> rfl
/-- The bias as the region takes it: the argument, as one row. -/
theorem V3_v19 : V3 m d (rf main_v19) = shapeCast S1x128 (at0 m d main_arg9) shapeCasts_S128_S1x128 := by
  rw [← V2_arg m d (b := main_arg9) (by decide)]; unfold V3 ops2; after_results_simp <;> rfl
/-- The bias as the region takes it: the argument, as one row. -/
theorem V3_v20 : V3 m d (rf main_v20) = shapeCast S1x64 (at0 m d main_arg11) shapeCasts_S64_S1x64 := by
  rw [← V2_arg m d (b := main_arg11) (by decide)]; unfold V3 ops2; after_results_simp <;> rfl
/-- The gathered rows as the region takes them. -/
theorem V3_v16_0 : V3 m d (rf main_v16_0) = gath (V1 m d (rf main_v14)) (V1 m d (rf main_v0)) :=
  (StableHlo.after_of_writes_sub ops2 _ ops2_wr (by decide)).trans (V2_0 m d)
/-- The gathered rows as the region takes them. -/
theorem V3_v16_1 : V3 m d (rf main_v16_1) = gath (V1 m d (rf main_v15)) (V1 m d (rf main_v1)) :=
  (StableHlo.after_of_writes_sub ops2 _ ops2_wr (by decide)).trans (V2_1 m d)

/-- A gathered double row, in the table it came from. -/
theorem gath_apply (ids : IVec S16384 32) (t : FVec Ideal S1000000x64 .f32) (j : Fin 16384) (h : (ids (ix1 j)).toNat < 1000000) (c : Fin 128) :
    gath (F := Ideal) (shapeCast S1x16384 (Host.shrui ids (broadcastInDim S16384 ![] bcast_S_S16384 (constantI S_ 32 1#32))) shapeCasts_S16384_S1x16384) (shapeCast S500000x128 t shapeCasts_S1000000x64_S500000x128) (ix2 j c)
      = shapeCast S500000x128 t shapeCasts_S1000000x64_S500000x128 (ix2 ⟨(ids (ix1 j)).toNat / 2, by omega⟩ c) := by
  have e : shapeCast S1x16384 (Host.shrui ids (broadcastInDim S16384 ![] bcast_S_S16384 (constantI S_ 32 1#32))) shapeCasts_S16384_S1x16384 (ixAt j)
      = IntOp.shrui .host (ids (ix1 j)) 1#32 := by
    rw [show ixAt j = ix2 (0 : Fin 1) j from eq_ix2 _]
    pointwise
  unfold gath
  refine congrArg _ ((eq_ix2 _).trans ?_)
  congr 1
  refine Fin.ext ?_
  show (shapeCast S1x16384 (Host.shrui ids (broadcastInDim S16384 ![] bcast_S_S16384 (constantI S_ 32 1#32))) shapeCasts_S16384_S1x16384 (ixAt j) : BitVec 32).toNat % 500000 = _
  rw [e, shr_one]
  show (ids (ix1 j)).toNat / 2 % 500000 = (ids (ix1 j)).toNat / 2
  omega

/-- The parities, as numbers. -/
theorem par_apply (ids : IVec S16384 32) (j : Fin 16384) :
    shapeCast S16384x1 (sitofp .f32 (andi ids (broadcastInDim S16384 ![] bcast_S_S16384 (constantI S_ 32 1#32))) : FVec Ideal S16384 .f32) shapeCasts_S16384_S16384x1 (ix2 j 0)
      = FloatOps.sitofp .f32 (IntOp.andi (ids (ix1 j)) 1#32) := by
  pointwise

/-- The chosen half of a gathered row is the row that was asked for. -/
theorem pick_gath (ids : IVec S16384 32) (t : FVec Ideal S1000000x64 .f32) (j : Fin 16384) (h : (ids (ix1 j)).toNat < 1000000) (fin : ∀ i, t i ≠ (⊤ : EReal) ∧ t i ≠ (⊥ : EReal)) :
    pick (fun c => gath (F := Ideal) (shapeCast S1x16384 (Host.shrui ids (broadcastInDim S16384 ![] bcast_S_S16384 (constantI S_ 32 1#32))) shapeCasts_S16384_S1x16384) (shapeCast S500000x128 t shapeCasts_S1000000x64_S500000x128) (ix2 j c))
        (shapeCast S16384x1 (sitofp .f32 (andi ids (broadcastInDim S16384 ![] bcast_S_S16384 (constantI S_ 32 1#32))) : FVec Ideal S16384 .f32) shapeCasts_S16384_S16384x1 (ix2 j 0))
      = fun c => t (ix2 ⟨(ids (ix1 j)).toNat, h⟩ c) := by
  funext c
  rw [par_apply, ← pick_row t (ids (ix1 j)) h fin c]
  simp only [gath_apply ids t j h]

/-- The kernel's result: of every pair of rows asked for, the score. -/
theorem result (hi : Ids m) (f2 : ∀ i, at0 m d main_arg2 i ≠ (⊤ : EReal) ∧ at0 m d main_arg2 i ≠ (⊥ : EReal)) (f3 : ∀ i, at0 m d main_arg3 i ≠ (⊤ : EReal) ∧ at0 m d main_arg3 i ≠ (⊥ : EReal)) :
    V4 m d (rf main_v21) = fun j : S16384.Idx =>
      score
        (dense (fun c => at0 m d main_arg2 (ix2 ⟨(at0 m d main_arg0 (ix1 (j 0)) : BitVec 32).toNat, (hi d).1 _⟩ c)) (fun c a => at0 m d main_arg4 (ix2 c a)) (fun a => at0 m d main_arg5 (ix1 a))
          (fun a k => at0 m d main_arg6 (ix2 a k)) (fun k => at0 m d main_arg7 (ix1 k)))
        (dense (fun c => at0 m d main_arg3 (ix2 ⟨(at0 m d main_arg1 (ix1 (j 0)) : BitVec 32).toNat, (hi d).2 _⟩ c)) (fun c a => at0 m d main_arg8 (ix2 c a)) (fun a => at0 m d main_arg9 (ix1 a))
          (fun a k => at0 m d main_arg10 (ix2 a k)) (fun k => at0 m d main_arg11 (ix1 k))) := by
  refine ((Pipeline.afterRegion_arr (dat (V3 m) d) (V3 m d) (by decide) 12).trans (arrAt_out (V3 m) d)).trans (funext fun j => ?_)
  unfold scoreOf
  rw [V3_v16_0, V3_v16_1, V3_of m d (b := main_v9) (by decide) (by decide) (by decide), V3_of m d (b := main_v13) (by decide) (by decide) (by decide),
    V1_v14, V1_v15, V1_v0, V1_v1, V1_v9, V1_v13, V3_v17, V3_v18, V3_v19, V3_v20,
    V3_arg m d (b := main_arg4) (by decide), V3_arg m d (b := main_arg6) (by decide), V3_arg m d (b := main_arg8) (by decide), V3_arg m d (b := main_arg10) (by decide)]
  rw [pick_gath _ _ (j 0) ((hi d).1 _) f2, pick_gath _ _ (j 0) ((hi d).2 _) f3]
  congr 1 <;> congr 1 <;> funext a <;> pointwise

end Args

end Cert.Proof.Vl
-- ==== Proof.Ref.lean ====
/-
  The reference's result as sums over the extended reals: of each pair of rows its score.
-/
module

public import proofs.«01_k».proof.Proof.Scores
public import proofs.«01_k».proof.Proof.Gen.ReferenceIdeal.Run
public import Idealize.ShloMosaic.Lib.Pointwise
public import Idealize.ShloMosaic.Lib.Routing.Ops
public import Idealize.ShloMosaic.Lib.Tactic.WordOmega
public import Idealize.ShloMosaic.Lib.Tactic.CleanTypes

@[expose] public section

noncomputable section

namespace Cert.Proof.Rf

open Cert.ReferenceIdeal Cert.ReferenceIdeal.Gen Idealize.ShloMosaic
open Cert.Proof.Tw (dense unit score)

/-! ## The reference's parts -/

/-- The row numbers as a column, a negative one counted from the end. -/
def col (ids : IVec S16384 32) : IVec S16384x1 32 :=
  broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 1000000#32))) ids)

/-- Which of them name a row of the table. -/
def mask (ids : IVec S16384 32) : IVec S16384 1 :=
  Host.reduce IntOp.andi (andi (cmpi .sge (col ids) (broadcastInDim S16384x1 ![] bcast_S_S16384x1 (constantI S_ 32 0#32))) (cmpi .sle (col ids) (broadcastInDim S16384x1 ![0, 1] bcast_S1x1_S16384x1_0_1 (broadcastInDim S1x1 ![1] bcast_S1_S1x1_1 (constantI S1 32 999999#32))))) (constantI S_ 1 1#1) reducesTo_S16384x1_S16384_d1 h_S_

/-- The rows of a table that the numbers name. -/
def take (t : FVec Ideal S1000000x64 .f32) (ids : IVec S16384 32) : FVec Ideal S16384x64 .f32 :=
  select (broadcastInDim S16384x64 ![0] bcast_S16384_S16384x64_0 (mask ids)) (Host.gather gather_S1000000x64_S16384x1_S16384x64_1_0_n_n_0_1_164 t (col ids)) (broadcastInDim S16384x64 ![] bcast_S_S16384x64 (constant S_ .f32 0x7FC00000#32))

/-- A tower over all rows. -/
def tower (E : FVec Ideal S16384x64 .f32) (W : FVec Ideal S64x128 .f32) (b : FVec Ideal S128 .f32) (W' : FVec Ideal S128x64 .f32) (b' : FVec Ideal S64 .f32) : FVec Ideal S16384x64 .f32 :=
  addf (Host.dotGeneral dot_S16384x128_S128x64_S16384x64_1_0_0_1_n_n none (maximumf (addf (Host.dotGeneral dot_S16384x64_S64x128_S16384x128_1_0_0_1_n_n none E W) (broadcastInDim S16384x128 ![0, 1] bcast_S1x128_S16384x128_0_1 (broadcastInDim S1x128 ![1] bcast_S128_S1x128_1 b))) (broadcastInDim S16384x128 ![] bcast_S_S16384x128 (constant S_ .f32 0x00000000#32))) W') (broadcastInDim S16384x64 ![0, 1] bcast_S1x64_S16384x64_0_1 (broadcastInDim S1x64 ![1] bcast_S64_S1x64_1 b'))

/-- The rows divided by their lengths. -/
def units (Y : FVec Ideal S16384x64 .f32) : FVec Ideal S16384x64 .f32 :=
  Host.divf Y (broadcastInDim S16384x64 ![0, 1] bcast_S16384x1_S16384x64_0_1 (maximumf (Host.sqrt (broadcastInDim S16384x1 ![0] bcast_S16384_S16384x1_0 (Host.reduceAdd (mulf Y Y) (constant S_ .f32 0x00000000#32) reducesTo_S16384x64_S16384_d1 h_S_))) (broadcastInDim S16384x1 ![] bcast_S_S16384x1 (constant S_ .f32 0x2B8CBCCC#32))))

/-- The inner products of corresponding rows. -/
def scores (Y Z : FVec Ideal S16384x64 .f32) : FVec Ideal S16384 .f32 :=
  Host.reduceAdd (mulf (units Y) (units Z)) (constant S_ .f32 0x00000000#32) reducesTo_S16384x64_S16384_d1 h_S_

set_option maxRecDepth 8192 in
/-- The reference's result by its parts. -/
theorem result (m : (ℓ : Loc nD τ sig) → Buf (Elt Ideal) ℓ) (c : Dev nD) :
    Cert.ReferenceIdeal.Value.res_main_v39 m c
      = scores (tower (take (m ((c.tc : Thread nD τ).loc main_arg2)) (m ((c.tc : Thread nD τ).loc main_arg0))) (m ((c.tc : Thread nD τ).loc main_arg4)) (m ((c.tc : Thread nD τ).loc main_arg5)) (m ((c.tc : Thread nD τ).loc main_arg6)) (m ((c.tc : Thread nD τ).loc main_arg7)))
          (tower (take (m ((c.tc : Thread nD τ).loc main_arg3)) (m ((c.tc : Thread nD τ).loc main_arg1))) (m ((c.tc : Thread nD τ).loc main_arg8)) (m ((c.tc : Thread nD τ).loc main_arg9)) (m ((c.tc : Thread nD τ).loc main_arg10)) (m ((c.tc : Thread nD τ).loc main_arg11))) := by
  unfold Cert.ReferenceIdeal.Value.res_main_v39
  rfl

/-! ## Read at an index -/

/-- An entry of the reference's normalised vectors, from the row alone. -/
theorem units_apply (Y : FVec Ideal S16384x64 .f32) (r : Fin 16384) (k : Fin 64) : units Y (ix2 r k) = unit (fun k => Y (ix2 r k)) k := by
  unfold unit
  pointwise [units]

/-- A score of the reference, from the two rows alone. -/
theorem scores_apply (Y Z : FVec Ideal S16384x64 .f32) (r : Fin 16384) : scores Y Z (ix1 r) = score (fun k => Y (ix2 r k)) (fun k => Z (ix2 r k)) := by
  unfold score
  simp only [← units_apply]
  pointwise [scores]

/-- An entry of the reference's tower, from the row alone. -/
theorem tower_apply (E : FVec Ideal S16384x64 .f32) (W : FVec Ideal S64x128 .f32) (b : FVec Ideal S128 .f32) (W' : FVec Ideal S128x64 .f32) (b' : FVec Ideal S64 .f32) (r : Fin 16384) (k : Fin 64) :
    tower E W b W' b' (ix2 r k) = dense (fun c => E (ix2 r c)) (fun c a => W (ix2 c a)) (fun a => b (ix1 a)) (fun a k => W' (ix2 a k)) (fun k => b' (ix1 k)) k := by
  unfold dense
  pointwise [tower]

/-- For a row number in range, the reference's correction of negative ones changes nothing. -/
theorem col_apply (ids : IVec S16384 32) (r : Fin 16384) (h : (ids (ix1 r)).toNat < 1000000) : col ids (ix2 r 0) = ids (ix1 r) := by
  have e : IntOp.cmpi .slt (ids (ix1 r)) 0#32 = 0#1 := by
    have n : (ids (ix1 r)).slt 0#32 = false := by
      rw [BitVec.slt_eq_decide, decide_eq_false_iff_not, BitVec.toInt_eq_toNat_cond, if_pos (by omega)]
      simp
    simp only [IntOp.cmpi, n]
    rfl
  pointwise [col]
  rw [e]
  rfl

/-- For a row number in range, the reference's mask is true. -/
theorem mask_apply (ids : IVec S16384 32) (r : Fin 16384) (h : (ids (ix1 r)).toNat < 1000000) : mask ids (ix1 r) = 1#1 := by
  pointwise [mask]
  have e0 : IntOp.cmpi .sge (ids (ix1 r)) 0#32 = 1#1 := by
    have n : (0#32).sle (ids (ix1 r)) = true := by
      rw [BitVec.sle_eq_decide, decide_eq_true_iff, BitVec.toInt_eq_toNat_cond (ids (ix1 r)), if_pos (by omega)]
      simp
    simp only [IntOp.cmpi, n]
    rfl
  have e1 : IntOp.cmpi .sle (ids (ix1 r)) 999999#32 = 1#1 := by
    have n : (ids (ix1 r)).sle 999999#32 = true := by
      rw [BitVec.sle_eq_decide, decide_eq_true_iff, BitVec.toInt_eq_toNat_cond (ids (ix1 r)), if_pos (by omega), show (999999#32).toInt = 999999 from rfl]
      omega
    simp only [IntOp.cmpi, n]
    rfl
  have ec : ∀ x : Fin 1, col ids (ix2 r x) = ids (ix1 r) := fun x => by rw [Subsingleton.elim x 0]; exact col_apply ids r h
  simp only [ec, e0, e1]
  decide

/-- A row in range is taken whole. -/
theorem take_apply (t : FVec Ideal S1000000x64 .f32) (ids : IVec S16384 32) (r : Fin 16384) (c : Fin 64) (h : (ids (ix1 r)).toNat < 1000000) :
    take t ids (ix2 r c) = t (ix2 ⟨(ids (ix1 r)).toNat, h⟩ c) := by
  have hg : Host.gather gather_S1000000x64_S16384x1_S16384x64_1_0_n_n_0_1_164 t (col ids) (ix2 r c) = t (ix2 ⟨(ids (ix1 r)).toNat, h⟩ c) :=
    Routing.gather_row gather_S1000000x64_S16384x1_S16384x64_1_0_n_n_0_1_164 rfl rfl rfl rfl rfl t (col ids) r c ⟨_, h⟩
      ((col_apply ids r h).trans (BitVec.ofNat_toNat _ _ ▸ rfl)) (by decide)
  pointwise [take]
  rw [mask_apply ids r h]
  exact hg

end Cert.Proof.Rf
-- ==== Proof.Both.lean ====
/-
  The kernel and the reference compute the same scores.
-/
module

public import proofs.«01_k».proof.Proof.Value
public import proofs.«01_k».proof.Proof.Ref
public import proofs.«01_k».proof.Proof.Pre

@[expose] public section

noncomputable section

namespace Cert.Proof.Bo

open Idealize.ShloMosaic
open Cert.Proof.Tw (dense score Below Ids at0 V4 rf)

/-- An extended real whose absolute value is below infinity is finite. -/
theorem finite_of_lt {x : EReal} (h : max x (-x) < (⊤ : EReal)) : x ≠ (⊤ : EReal) ∧ x ≠ (⊥ : EReal) := by
  refine ⟨fun e => ?_, fun e => ?_⟩ <;> · subst e; simp at h

/-- The entries of a table that compare below infinity are finite. -/
theorem finite_of_below {t : FVec Ideal Cert.Pre_ids_in_range_and_tables_finite.S1000000x64 .f32} (h : Below t) (i : Cert.Pre_ids_in_range_and_tables_finite.S1000000x64.Idx) :
    t i ≠ (⊤ : EReal) ∧ t i ≠ (⊥ : EReal) := by
  have e : Ideal.cmp .olt (max (t i) (-(t i))) (Ideal.ofBits .f32 0x7F800000#32) = 1#1 := h i
  have top : Ideal.ofBits .f32 0x7F800000#32 = ⊤ := by simp [Ideal.ofBits, Ideal.ieee]
  rw [top] at e
  refine finite_of_lt ?_
  by_contra n
  simp [Ideal.cmp, n] at e

/-- The reference's scores of given arguments. -/
theorem scores_eq (i0 i1 : IVec Cert.ReferenceIdeal.S16384 32) (t0 t1 : FVec Ideal Cert.ReferenceIdeal.S1000000x64 .f32)
    (W1 W3 : FVec Ideal Cert.ReferenceIdeal.S64x128 .f32) (b1 b3 : FVec Ideal Cert.ReferenceIdeal.S128 .f32)
    (W2 W4 : FVec Ideal Cert.ReferenceIdeal.S128x64 .f32) (b2 b4 : FVec Ideal Cert.ReferenceIdeal.S64 .f32)
    (h0 : ∀ j, (i0 j).toNat < 1000000) (h1 : ∀ j, (i1 j).toNat < 1000000) :
    Rf.scores (Rf.tower (Rf.take t0 i0) W1 b1 W2 b2) (Rf.tower (Rf.take t1 i1) W3 b3 W4 b4) = fun j =>
      score (dense (fun c => t0 (ix2 ⟨(i0 (ix1 (j 0))).toNat, h0 _⟩ c)) (fun c a => W1 (ix2 c a)) (fun a => b1 (ix1 a)) (fun a k => W2 (ix2 a k)) (fun k => b2 (ix1 k)))
        (dense (fun c => t1 (ix2 ⟨(i1 (ix1 (j 0))).toNat, h1 _⟩ c)) (fun c a => W3 (ix2 c a)) (fun a => b3 (ix1 a)) (fun a k => W4 (ix2 a k)) (fun k => b4 (ix1 k))) := by
  funext j
  obtain ⟨r, rfl⟩ : ∃ r : Fin 16384, j = ix1 r := ⟨j 0, eq_ix1 j⟩
  refine (Rf.scores_apply _ _ r).trans (congr (congrArg score (funext fun k => ?_)) (funext fun k => ?_))
  · rw [Rf.tower_apply]
    simp only [Rf.take_apply _ _ _ _ (h0 (ix1 r))]
    rfl
  · rw [Rf.tower_apply]
    simp only [Rf.take_apply _ _ _ _ (h1 (ix1 r))]
    rfl

end Cert.Proof.Bo
-- ==== Proof.lean ====
/-
  The proof of `Cert.Claim`: the frames of the kernel, of the idealized kernel and of the idealized reference, that
  idealizing rewrote nothing, and that over the extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range_and_tables_finite
public import proofs.«01_k».proof.Proof.Ends
public import proofs.«01_k».proof.Proof.Pre
public import proofs.«01_k».proof.Proof.PreIds
public import proofs.«01_k».proof.Proof.Twin
public import proofs.«01_k».proof.Proof.Both
public import Idealize.ShloMosaic.Adequacy
public import Idealize.ShloMosaic.Init

@[expose] public section

noncomputable section

namespace Cert.Proof

open Idealize.ShloMosaic Idealize.SL.Sem Cert.Kernel

/-- The row numbers of a memory that meets the frames' precondition are in range. -/
theorem ids_of_range {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_ids_in_range.fn (F := F) (Tw.at0 m c Cert.KernelIdeal.main_arg0) (Tw.at0 m c Cert.KernelIdeal.main_arg1)
      (Tw.at0 m c Cert.KernelIdeal.main_arg2) (Tw.at0 m c Cert.KernelIdeal.main_arg3) (Tw.at0 m c Cert.KernelIdeal.main_arg4) (Tw.at0 m c Cert.KernelIdeal.main_arg5)
      (Tw.at0 m c Cert.KernelIdeal.main_arg6) (Tw.at0 m c Cert.KernelIdeal.main_arg7) (Tw.at0 m c Cert.KernelIdeal.main_arg8) (Tw.at0 m c Cert.KernelIdeal.main_arg9)
      (Tw.at0 m c Cert.KernelIdeal.main_arg10) (Tw.at0 m c Cert.KernelIdeal.main_arg11) = fun _ => 1#1) : Tw.Ids m :=
  fun c => ⟨(Pi.of_pre (h c)).1, (Pi.of_pre (h c)).2⟩

/-- The row numbers of a memory that meets the value claim's precondition are in range. -/
theorem ids_of_pre {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_ids_in_range_and_tables_finite.fn (F := F) (Tw.at0 m c Cert.KernelIdeal.main_arg0) (Tw.at0 m c Cert.KernelIdeal.main_arg1)
      (Tw.at0 m c Cert.KernelIdeal.main_arg2) (Tw.at0 m c Cert.KernelIdeal.main_arg3) (Tw.at0 m c Cert.KernelIdeal.main_arg4) (Tw.at0 m c Cert.KernelIdeal.main_arg5)
      (Tw.at0 m c Cert.KernelIdeal.main_arg6) (Tw.at0 m c Cert.KernelIdeal.main_arg7) (Tw.at0 m c Cert.KernelIdeal.main_arg8) (Tw.at0 m c Cert.KernelIdeal.main_arg9)
      (Tw.at0 m c Cert.KernelIdeal.main_arg10) (Tw.at0 m c Cert.KernelIdeal.main_arg11) = fun _ => 1#1) : Tw.Ids m :=
  fun c => ⟨(Tw.of_pre (h c)).1, (Tw.of_pre (h c)).2.1⟩

/-- What the frames state of the arguments, out of the run's account of them. -/
theorem twelve {F : FTy → Type} (m m' : (ℓ : Loc Cert.KernelIdeal.nD Cert.KernelIdeal.τ Cert.KernelIdeal.sig) → Buf (Elt F) ℓ) (c : Dev Cert.KernelIdeal.nD)
    (h : ∀ b ∈ Tw.args, m' ((c.tc : Thread Cert.KernelIdeal.nD Cert.KernelIdeal.τ).loc b) = m ((c.tc : Thread Cert.KernelIdeal.nD Cert.KernelIdeal.τ).loc b)) :
    Tw.at0 m' c Cert.KernelIdeal.main_arg0 = Tw.at0 m c Cert.KernelIdeal.main_arg0 ∧ Tw.at0 m' c Cert.KernelIdeal.main_arg1 = Tw.at0 m c Cert.KernelIdeal.main_arg1
    ∧ Tw.at0 m' c Cert.KernelIdeal.main_arg2 = Tw.at0 m c Cert.KernelIdeal.main_arg2 ∧ Tw.at0 m' c Cert.KernelIdeal.main_arg3 = Tw.at0 m c Cert.KernelIdeal.main_arg3
    ∧ Tw.at0 m' c Cert.KernelIdeal.main_arg4 = Tw.at0 m c Cert.KernelIdeal.main_arg4 ∧ Tw.at0 m' c Cert.KernelIdeal.main_arg5 = Tw.at0 m c Cert.KernelIdeal.main_arg5
    ∧ Tw.at0 m' c Cert.KernelIdeal.main_arg6 = Tw.at0 m c Cert.KernelIdeal.main_arg6 ∧ Tw.at0 m' c Cert.KernelIdeal.main_arg7 = Tw.at0 m c Cert.KernelIdeal.main_arg7
    ∧ Tw.at0 m' c Cert.KernelIdeal.main_arg8 = Tw.at0 m c Cert.KernelIdeal.main_arg8 ∧ Tw.at0 m' c Cert.KernelIdeal.main_arg9 = Tw.at0 m c Cert.KernelIdeal.main_arg9
    ∧ Tw.at0 m' c Cert.KernelIdeal.main_arg10 = Tw.at0 m c Cert.KernelIdeal.main_arg10 ∧ Tw.at0 m' c Cert.KernelIdeal.main_arg11 = Tw.at0 m c Cert.KernelIdeal.main_arg11 :=
  ⟨h _ (by simp [Tw.args]), h _ (by simp [Tw.args]), h _ (by simp [Tw.args]), h _ (by simp [Tw.args]), h _ (by simp [Tw.args]), h _ (by simp [Tw.args]),
    h _ (by simp [Tw.args]), h _ (by simp [Tw.args]), h _ (by simp [Tw.args]), h _ (by simp [Tw.args]), h _ (by simp [Tw.args]), h _ (by simp [Tw.args])⟩

/-- The printed kernel runs, keeps its arguments and leaves every semaphore at zero. -/
theorem frame_kernel : Cert.quiescent_Kernel := by
  intro m ρ hpre
  rw [Tw.defs_eq, Tw.threads_eq]
  exact (θ_run Cert.KernelIdeal.defs _ _).mono (fun r h => ⟨fun c => twelve m r.2.mem c (h.1 c), h.2.2⟩) (Tw.frame (F := Bits) m (ids_of_range m hpre) ρ)

/-- So does the idealized kernel, -/
theorem frame_ideal : Cert.quiescent_KernelIdeal := fun m ρ hpre =>
  (θ_run Cert.KernelIdeal.defs _ _).mono (fun r h => ⟨fun c => twelve m r.2.mem c (h.1 c), h.2.2⟩) (Tw.frame (F := Ideal) m (ids_of_range m hpre) ρ)

/-- also where the tables' entries are finite besides, as the value claim has it, -/
theorem frame_ideal_finite : Cert.quiescent_KernelIdeal_pre_ids_in_range_and_tables_finite := fun m ρ hpre =>
  (θ_run Cert.KernelIdeal.defs _ _).mono (fun r h => ⟨fun c => twelve m r.2.mem c (h.1 c), h.2.2⟩) (Tw.frame (F := Ideal) m (ids_of_pre m hpre) ρ)

/-- and the idealized reference, from any memory. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals the kernel leaves in its result what the reference leaves in its own: of every pair of rows asked
    for, the inner product of the two towers' vectors. -/
theorem algebraic : Cert.algebraic_KernelIdeal_ReferenceIdeal_pre_ids_in_range_and_tables_finite := by
  intro m ρ m' ρ' hpre hagree
  have hi := ids_of_pre m hpre
  refine ⟨fun c => Tw.V4 m c (Tw.rf Cert.KernelIdeal.main_v21),
    (θ_run Cert.KernelIdeal.defs _ _).mono (fun r h c => ⟨h.2.1 c, twelve m r.2.mem c (h.1 c)⟩) (Tw.frame (F := Ideal) m hi ρ),
    (θ_run Cert.ReferenceIdeal.defs _ _).mono (fun r h c => ⟨(h c).1.trans ?_, (h c).2⟩) (Cert.ReferenceIdeal.Value.run (F := Ideal) m' ρ')⟩
  obtain ⟨a0, a1, a2, a3, a4, a5, a6, a7, a8, a9, a10, a11⟩ := hagree c
  refine (Rf.result m' c).trans ?_
  rw [a0, a1, a2, a3, a4, a5, a6, a7, a8, a9, a10, a11]
  obtain ⟨-, -, b2, b3⟩ := Tw.of_pre (hpre c)
  exact (Bo.scores_eq _ _ _ _ _ _ _ _ _ _ _ _ (hi c).1 (hi c).2).trans (Vl.result m c hi (Bo.finite_of_below b2) (Bo.finite_of_below b3)).symm

/-- Everything that is claimed. -/
theorem claim : Cert.Claim := ⟨Cert.Kernel.Gen.facts, Cert.KernelIdeal.Gen.facts, Cert.ReferenceIdeal.Gen.facts, Pi.facts, Cert.Pre_ids_in_range_and_tables_finite.Gen.facts,
  frame_kernel, frame_ideal, frame_ideal_finite, frame_reference, fun m g _ => frame_reference m g trivial, trivial, algebraic⟩

end Cert.Proof

end
